-- ==== Defs.lean ====
def Pre_Kernel [hPre_groups_partition_rows : Cert.Pre_groups_partition_rows.Facts] (m : (ℓ : Loc Cert.Kernel.nD Cert.Kernel.τ Cert.Kernel.sig) → Buf (Elt Bits) ℓ) : Prop :=
  ∀ c : Dev Cert.Kernel.nD,
    (Cert.Pre_groups_partition_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups_partition_rows : Cert.Pre_groups_partition_rows.Facts] (m : (ℓ : Loc Cert.KernelIdeal.nD Cert.KernelIdeal.τ Cert.KernelIdeal.sig) → Buf (Elt Ideal) ℓ) : Prop :=
  ∀ c : Dev Cert.KernelIdeal.nD,
    (Cert.Pre_groups_partition_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_groups_partition_rows : Cert.Pre_groups_partition_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_partition_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_groups_partition_rows : Cert.Pre_groups_partition_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_partition_rows : Cert.Pre_groups_partition_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_groups_partition_rows : Cert.Pre_groups_partition_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_partition_rows : Cert.Pre_groups_partition_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_partition_rows : Cert.Pre_groups_partition_rows.Facts),
    quiescent_Kernel (hKernel := hKernel) (hPre_groups_partition_rows := hPre_groups_partition_rows)
    ∧ quiescent_KernelIdeal (hKernelIdeal := hKernelIdeal) (hPre_groups_partition_rows := hPre_groups_partition_rows)
    ∧ quiescent_ReferenceIdeal (hReferenceIdeal := hReferenceIdeal) (hPre_groups_partition_rows := hPre_groups_partition_rows)
    ∧ preserves_Kernel_KernelIdeal
    ∧ algebraic_KernelIdeal_ReferenceIdeal (hKernelIdeal := hKernelIdeal) (hReferenceIdeal := hReferenceIdeal) (hPre_groups_partition_rows := hPre_groups_partition_rows)
-- ==== Pre_groups_partition_rows.lean ====
abbrev S32768x4096 : Shape := ⟨2, ![32768, 4096]⟩
abbrev S16 : Shape := ⟨1, ![16]⟩
abbrev S16x5120x4096 : Shape := ⟨3, ![16, 5120, 4096]⟩
abbrev S16x5120 : Shape := ⟨2, ![16, 5120]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32768x4096 .bf16) (main_arg1 : IVec S16 32) (main_arg2 : FVec F S16 .f32) (main_arg3 : FVec F S16x5120x4096 .fp8e4m3) (main_arg4 : FVec F S16x5120 .f32) : IVec S16 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 32768#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 32 := constantI S_ 32 0#32
  let main_v5 : IVec S_ 32 := (fun x v => Host.reduce IntOp.addi x v reducesTo_S16_S_d0 h_S_) main_arg1 main_c_1
  let main_c_2 : IVec S_ 32 := constantI S_ 32 32768#32
  let main_v6 : IVec S_ 1 := cmpi .eq main_v5 main_c_2
  let main_v7 : IVec S16 1 := broadcastInDim S16 ![] bcast_S_S16 main_v6
  let main_v8 : IVec S16 1 := andi main_v4 main_v7
  main_v8
-- ==== Kernel.lean ====
abbrev S32768x4096 : Shape := ⟨2, ![32768, 4096]⟩
abbrev S16 : Shape := ⟨1, ![16]⟩
abbrev S16x5120x4096 : Shape := ⟨3, ![16, 5120, 4096]⟩
abbrev S16x5120 : Shape := ⟨2, ![16, 5120]⟩
abbrev S_ : Shape := ⟨0, ![]⟩
abbrev S144 : Shape := ⟨1, ![144]⟩
abbrev S1 : Shape := ⟨1, ![1]⟩
abbrev S144x1 : Shape := ⟨2, ![144, 1]⟩
abbrev S1x16 : Shape := ⟨2, ![1, 16]⟩
abbrev S144x16 : Shape := ⟨2, ![144, 16]⟩
abbrev S16x1x5120 : Shape := ⟨3, ![16, 1, 5120]⟩
abbrev S32768x5120 : Shape := ⟨2, ![32768, 5120]⟩
abbrev S256x4096 : Shape := ⟨2, ![256, 4096]⟩
abbrev S1x5120x4096 : Shape := ⟨3, ![1, 5120, 4096]⟩
abbrev S1x1x5120 : Shape := ⟨3, ![1, 1, 5120]⟩
abbrev S256x5120 : Shape := ⟨2, ![256, 5120]⟩
abbrev S256x1 : Shape := ⟨2, ![256, 1]⟩
abbrev S1x512x4096 : Shape := ⟨3, ![1, 512, 4096]⟩
abbrev S512x4096 : Shape := ⟨2, ![512, 4096]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 96
  | .vmem => 9
  | .smem => 6
  | _ => 0

abbrev bufTy : (tb : Table) → Fin (tcTables nBuf tb) → BufTy
  | .hbm, ⟨0, _⟩ => ⟨S32768x4096, .bf16⟩
  | .hbm, ⟨1, _⟩ => ⟨S16, .i32⟩
  | .hbm, ⟨2, _⟩ => ⟨S16, .f32⟩
  | .hbm, ⟨3, _⟩ => ⟨S16x5120x4096, .fp8e4m3⟩
  | .hbm, ⟨4, _⟩ => ⟨S16x5120, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i1⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S_, .i32⟩
  | .hbm, ⟨32, _⟩ => ⟨S_, .i32⟩
  | .hbm, ⟨33, _⟩ => ⟨S16, .i32⟩
  | .hbm, ⟨34, _⟩ => ⟨S16, .i32⟩
  | .hbm, ⟨35, _⟩ => ⟨S16, .i32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S16, .i32⟩
  | .hbm, ⟨40, _⟩ => ⟨S16, .i32⟩
  | .hbm, ⟨41, _⟩ => ⟨S_, .i32⟩
  | .hbm, ⟨42, _⟩ => ⟨S16, .i32⟩
  | .hbm, ⟨43, _⟩ => ⟨S16, .i1⟩
  | .hbm, ⟨44, _⟩ => ⟨S16, .i1⟩
  | .hbm, ⟨45, _⟩ => ⟨S_, .i32⟩
  | .hbm, ⟨46, _⟩ => ⟨S16, .i32⟩
  | .hbm, ⟨47, _⟩ => ⟨S16, .i32⟩
  | .hbm, ⟨48, _⟩ => ⟨S16, .i32⟩
  | .hbm, ⟨49, _⟩ => ⟨S_, .i32⟩
  | .hbm, ⟨50, _⟩ => ⟨S16, .i32⟩
  | .hbm, ⟨51, _⟩ => ⟨S16, .i1⟩
  | .hbm, ⟨52, _⟩ => ⟨S16, .i32⟩
  | .hbm, ⟨53, _⟩ => ⟨S_, .i32⟩
  | .hbm, ⟨54, _⟩ => ⟨S_, .i32⟩
  | .hbm, ⟨55, _⟩ => ⟨S16, .i32⟩
  | .hbm, ⟨56, _⟩ => ⟨S16, .i32⟩
  | .hbm, ⟨57, _⟩ => ⟨S_, .i32⟩
  | .hbm, ⟨58, _⟩ => ⟨S_, .i32⟩
  | .hbm, ⟨59, _⟩ => ⟨S16, .i32⟩
  | .hbm, ⟨60, _⟩ => ⟨S144, .i32⟩
  | .hbm, ⟨61, _⟩ => ⟨S1, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S144, .i32⟩
  | .hbm, ⟨66, _⟩ => ⟨S144, .i32⟩
  | .hbm, ⟨67, _⟩ => ⟨S144x1, .i32⟩
  | .hbm, ⟨68, _⟩ => ⟨S1x16, .i32⟩
  | .hbm, ⟨69, _⟩ => ⟨S144x16, .i32⟩
  | .hbm, ⟨70, _⟩ => ⟨S144x16, .i32⟩
  | .hbm, ⟨71, _⟩ => ⟨S144x16, .i1⟩
  | .hbm, ⟨72, _⟩ => ⟨S144x16, .i32⟩
  | .hbm, ⟨73, _⟩ => ⟨S_, .i32⟩
  | .hbm, ⟨74, _⟩ => ⟨S_, .i32⟩
  | .hbm, ⟨75, _⟩ => ⟨S144, .i32⟩
  | .hbm, ⟨76, _⟩ => ⟨S144, .i1⟩
  | .hbm, ⟨77, _⟩ => ⟨S_, .i32⟩
  | .hbm, ⟨78, _⟩ => ⟨S144, .i32⟩
  | .hbm, ⟨79, _⟩ => ⟨S144, .i32⟩
  | .hbm, ⟨80, _⟩ => ⟨S144, .i32⟩
  | .hbm, ⟨81, _⟩ => ⟨S144x1, .i32⟩
  | .hbm, ⟨82, _⟩ => ⟨S144, .i32⟩
  | .hbm, ⟨83, _⟩ => ⟨S144, .i32⟩
  | .hbm, ⟨84, _⟩ => ⟨S16, .i32⟩
  | .hbm, ⟨85, _⟩ => ⟨S_, .i32⟩
  | .hbm, ⟨86, _⟩ => ⟨S144, .i32⟩
  | .hbm, ⟨87, _⟩ => ⟨S144, .i1⟩
  | .hbm, ⟨88, _⟩ => ⟨S_, .i32⟩
  | .hbm, ⟨89, _⟩ => ⟨S144, .i32⟩
  | .hbm, ⟨90, _⟩ => ⟨S144, .i32⟩
  | .hbm, ⟨91, _⟩ => ⟨S144, .i32⟩
  | .hbm, ⟨92, _⟩ => ⟨S144x1, .i32⟩
  | .hbm, ⟨93, _⟩ => ⟨S144, .i32⟩
  | .hbm, ⟨94, _⟩ => ⟨S16x1x5120, .f32⟩
  | .hbm, ⟨95, _⟩ => ⟨S32768x5120, .bf16⟩
  | .local _ .vmem, ⟨0, _⟩ => ⟨S256x4096, .bf16⟩
  | .local _ .vmem, ⟨1, _⟩ => ⟨S256x4096, .bf16⟩
  | .local _ .vmem, ⟨2, _⟩ => ⟨S1x5120x4096, .fp8e4m3⟩
  | .local _ .vmem, ⟨3, _⟩ => ⟨S1x5120x4096, .fp8e4m3⟩
  | .local _ .vmem, ⟨4, _⟩ => ⟨S1x1x5120, .f32⟩
  | .local _ .vmem, ⟨5, _⟩ => ⟨S1x1x5120, .f32⟩
  | .local _ .vmem, ⟨6, _⟩ => ⟨S256x5120, .bf16⟩
  | .local _ .vmem, ⟨7, _⟩ => ⟨S256x5120, .bf16⟩
  | .local _ .vmem, ⟨8, _⟩ => ⟨S256x4096, .fp8e4m3⟩
  | .local _ .smem, ⟨0, _⟩ => ⟨S144, .i32⟩
  | .local _ .smem, ⟨1, _⟩ => ⟨S144, .i32⟩
  | .local _ .smem, ⟨2, _⟩ => ⟨S16, .i32⟩
  | .local _ .smem, ⟨3, _⟩ => ⟨S16, .i32⟩
  | .local _ .smem, ⟨4, _⟩ => ⟨S1, .i32⟩
  | .local _ .smem, ⟨5, _⟩ => ⟨S16, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨5, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_c : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_c : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_0 : Ref sig .tc := ⟨.hbm, 21, rfl⟩
abbrev main_call1_v12 : Ref sig .tc := ⟨.hbm, 22, rfl⟩
abbrev main_call1_v13 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_c_1 : Ref sig .tc := ⟨.hbm, 28, rfl⟩
abbrev main_v5 : Ref sig .tc := ⟨.hbm, 29, rfl⟩
abbrev main_v6 : Ref sig .tc := ⟨.hbm, 30, rfl⟩
abbrev main_c_2 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_c : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_0 : Ref sig .tc := ⟨.hbm, 45, rfl⟩
abbrev main_call2_v12 : Ref sig .tc := ⟨.hbm, 46, rfl⟩
abbrev main_call2_v13 : Ref sig .tc := ⟨.hbm, 47, rfl⟩
abbrev main_v7 : Ref sig .tc := ⟨.hbm, 48, rfl⟩
abbrev main_c_3 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_c_4 : Ref sig .tc := ⟨.hbm, 53, rfl⟩
abbrev main_call3_v0 : Ref sig .tc := ⟨.hbm, 54, rfl⟩
abbrev main_call3_v1 : Ref sig .tc := ⟨.hbm, 55, rfl⟩
abbrev main_v11 : Ref sig .tc := ⟨.hbm, 56, rfl⟩
abbrev main_call4_call0_c : Ref sig .tc := ⟨.hbm, 57, rfl⟩
abbrev main_call4_call0_v0 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_c_5 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_6 : Ref sig .tc := ⟨.hbm, 73, rfl⟩
abbrev main_c_7 : Ref sig .tc := ⟨.hbm, 74, rfl⟩
abbrev main_v26 : Ref sig .tc := ⟨.hbm, 75, rfl⟩
abbrev main_v27 : Ref sig .tc := ⟨.hbm, 76, rfl⟩
abbrev main_c_8 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_9 : Ref sig .tc := ⟨.hbm, 85, rfl⟩
abbrev main_v35 : Ref sig .tc := ⟨.hbm, 86, rfl⟩
abbrev main_v36 : Ref sig .tc := ⟨.hbm, 87, rfl⟩
abbrev main_c_10 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v44 : Ref sig .tc := ⟨.hbm, 94, rfl⟩
abbrev main_v45 : Ref sig .tc := ⟨.hbm, 95, rfl⟩
abbrev main_v42 : Ref sig .tc := ⟨.smem, 0, rfl⟩
abbrev main_v25 : Ref sig .tc := ⟨.smem, 1, rfl⟩
abbrev main_v1 : Ref sig .tc := ⟨.smem, 2, rfl⟩
abbrev main_v0 : Ref sig .tc := ⟨.smem, 3, rfl⟩
abbrev main_v43 : Ref sig .tc := ⟨.smem, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![144], ![false]⟩

abbrev pre0 : Pipeline.Prefetch sig := ⟨5, ![main_v42.idx, main_v25.idx, main_v1.idx, main_v0.idx, main_v43.idx], fun | 0 => main_v42.names | 1 => main_v25.names | 2 => main_v1.names | 3 => main_v0.names | 4 => main_v43.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v4 : Index := Scalar.indexCast arg0
  ![v4.toNat]
def k0_off3 (v5 : BitVec 32) : Fin 1 → Nat :=
  let v6 : Index := Scalar.indexCast v5
  ![v6.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_chk1 (i : grid0.Coords) (v0 : BitVec 32) (v5 : BitVec 32) : Prop :=
  (∀ (k0_h1 : k0_cond1 i v0 = 1#1), ∀ a, (k0_off3 v5) a + S1.size a ≤ S16.size a)
theorem k0_off3_inb : ∀ (i : grid0.Coords) (v0 : BitVec 32) (v5 : BitVec 32) (k0_hw1 : k0_chk1 i v0 v5), ∀ (k0_h1 : k0_cond1 i v0 = 1#1), ∀ a, (k0_off3 v5) a + S1.size a ≤ S16.size a := fun i v0 v5 k0_hw1 k0_h1 => k0_hw1 k0_h1

def k0_off4 (i : grid0.Coords) : Fin 1 → Nat :=
  let arg0 : BitVec 32 := BitVec.ofNat 32 (i 0).val
  let v20 : Index := Scalar.indexCast arg0
  ![v20.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (k0_off1_inb : ∀ i : grid0.Coords, ∀ a, (k0_off1 i) a + S1.size a ≤ S144.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S144.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S144) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S144.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S144) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5120x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S32768x4096 : Shape := ⟨2, ![32768, 4096]⟩
abbrev S16 : Shape := ⟨1, ![16]⟩
abbrev S16x5120x4096 : Shape := ⟨3, ![16, 5120, 4096]⟩
abbrev S16x5120 : Shape := ⟨2, ![16, 5120]⟩
abbrev S_ : Shape := ⟨0, ![]⟩
abbrev S32768 : Shape := ⟨1, ![32768]⟩
abbrev S32768x1 : Shape := ⟨2, ![32768, 1]⟩
abbrev S1x16 : Shape := ⟨2, ![1, 16]⟩
abbrev S32768x16 : Shape := ⟨2, ![32768, 16]⟩
abbrev S32768x5120 : Shape := ⟨2, ![32768, 5120]⟩
abbrev S1x5120x4096 : Shape := ⟨3, ![1, 5120, 4096]⟩
abbrev S5120x4096 : Shape := ⟨2, ![5120, 4096]⟩

abbrev nBuf : Space → Nat
  | .hbm => 38
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S16, .i32⟩
  | .hbm, ⟨2, _⟩ => ⟨S16, .f32⟩
  | .hbm, ⟨3, _⟩ => ⟨S16x5120x4096, .fp8e4m3⟩
  | .hbm, ⟨4, _⟩ => ⟨S16x5120, .f32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S32768, .i32⟩
  | .hbm, ⟨9, _⟩ => ⟨S32768x1, .i32⟩
  | .hbm, ⟨10, _⟩ => ⟨S1x16, .i32⟩
  | .hbm, ⟨11, _⟩ => ⟨S32768x16, .i32⟩
  | .hbm, ⟨12, _⟩ => ⟨S32768x16, .i32⟩
  | .hbm, ⟨13, _⟩ => ⟨S32768x16, .i1⟩
  | .hbm, ⟨14, _⟩ => ⟨S32768x16, .i32⟩
  | .hbm, ⟨15, _⟩ => ⟨S_, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S32768, .f32⟩
  | .hbm, ⟨26, _⟩ => ⟨S32768x1, .i32⟩
  | .hbm, ⟨27, _⟩ => ⟨S32768x1, .f32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S32768x5120, .f32⟩
  | .hbm, ⟨37, _⟩ => ⟨S32768x5120, .bf16⟩
  | .local _ .vmem, ⟨0, _⟩ => ⟨S32768x1, .i32⟩
  | .local _ .vmem, ⟨1, _⟩ => ⟨S32768x1, .f32⟩
  | .local _ .vmem, ⟨2, _⟩ => ⟨S32768x4096, .bf16⟩
  | .local _ .vmem, ⟨3, _⟩ => ⟨S16x5120x4096, .fp8e4m3⟩
  | .local _ .vmem, ⟨4, _⟩ => ⟨S32768x5120, .f32⟩
  | .local _ .vmem, ⟨5, _⟩ => ⟨S32768x5120, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32768x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x5120x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32768x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Sched.lean ====
/-
  The visit schedule over the naturals. Sixteen experts own consecutive groups of rows, `g e` rows each; rows come in blocks of 256. A visit is a
  pair (expert, block) whose rows meet; visits run expert by expert. Nothing here mentions a program.
-/
module

public import Idealize.ShloMosaic.Lib.Routing.OpsSet

@[expose] public section

namespace Cert.Sched

/-- The sum of the first `n` values of `f`. -/
def pre (f : ℕ → ℕ) (n : ℕ) : ℕ := ((List.range n).map f).sum

/-- No values sum to zero. -/
theorem pre_zero (f : ℕ → ℕ) : pre f 0 = 0 := rfl

/-- One more value is added at the end. -/
theorem pre_succ (f : ℕ → ℕ) (n : ℕ) : pre f (n + 1) = pre f n + f n := by
  simp [pre, List.range_succ]

/-- Prefix sums grow. -/
theorem pre_mono (f : ℕ → ℕ) {i j : ℕ} (h : i ≤ j) : pre f i ≤ pre f j := by
  induction j, h using Nat.le_induction with
  | base => exact le_rfl
  | succ j _ ih => rw [pre_succ]; omega

/-- A number below a prefix sum lies between two neighbouring prefix sums. -/
theorem pre_between (f : ℕ → ℕ) (n t : ℕ) (h : t < pre f n) : ∃ e, e < n ∧ pre f e ≤ t ∧ t < pre f (e + 1) := by
  induction n with
  | zero => simp [pre_zero] at h
  | succ n ih =>
    rcases Nat.lt_or_ge t (pre f n) with h' | h'
    · obtain ⟨e, he, h1, h2⟩ := ih h'
      exact ⟨e, by omega, h1, h2⟩
    · exact ⟨n, by omega, h', h⟩

/-- Counting the numbers below `k` among those below `n` gives `k`. -/
theorem count_lt (p : ℕ → Prop) [DecidablePred p] (n k : ℕ) (hk : k ≤ n) (h : ∀ i, i < n → (p i ↔ i < k)) : Nat.count p n = k := by
  induction n generalizing k with
  | zero => simp; omega
  | succ n ih =>
    rw [Nat.count_succ]
    rcases Nat.lt_or_ge n k with h' | h'
    · rw [if_pos ((h n (by omega)).2 h'), ih n le_rfl (fun i hi => by rw [h i (by omega)]; omega)]
      omega
    · rw [if_neg (fun hp => by have := (h n (by omega)).1 hp; omega), ih k h' (fun i hi => h i (by omega))]
      omega

/-- The number of prefix sums that `t` has reached is the place of `t` between them. -/
theorem count_pre (f : ℕ → ℕ) (n t e : ℕ) (he : e < n) (h1 : pre f e ≤ t) (h2 : t < pre f (e + 1)) :
    Nat.count (fun i => pre f (i + 1) ≤ t) n = e := by
  refine count_lt _ n e he.le fun i _ => ⟨fun h => ?_, fun h => ?_⟩
  · by_contra hc
    have := pre_mono f (show e + 1 ≤ i + 1 by omega)
    omega
  · have := pre_mono f (show i + 1 ≤ e by omega)
    omega

variable (g : ℕ → ℕ)

/-- The number of blocks that the rows of expert `e` meet. -/
def nb (e : ℕ) : ℕ := if 0 < g e then (pre g (e + 1) + 255) / 256 - pre g e / 256 else 0

/-- The number of visits. -/
def tot : ℕ := pre (nb g) 16

/-- The visit made at grid point `t`: points beyond the last visit repeat it. -/
def vis (t : ℕ) : ℕ := min t (tot g - 1)

/-- The expert of grid point `t`. -/
def ex (t : ℕ) : ℕ := Nat.count (fun e => pre (nb g) (e + 1) ≤ vis g t) 16

/-- The block of grid point `t`. -/
def blk (t : ℕ) : ℕ := pre g (ex g t) / 256 + (vis g t - pre (nb g) (ex g t))

/-- The first row that grid point `t` computes. -/
def lo (t : ℕ) : ℕ := max (pre g (ex g t)) (256 * blk g t)

/-- One past the last row that grid point `t` computes. -/
def hi (t : ℕ) : ℕ := min (pre g (ex g t + 1)) (256 * (blk g t + 1))

/-- Between equal visit counts lie no rows. -/
theorem pre_eq_of_nb {i j : ℕ} (hij : i ≤ j) (h : pre (nb g) i = pre (nb g) j) : pre g i = pre g j := by
  induction j, hij using Nat.le_induction with
  | base => rfl
  | succ j hj ih =>
    have h1 := pre_mono (nb g) hj
    have h2 := pre_succ (nb g) j
    have h3 := pre_succ g j
    have h4 : nb g j = 0 := by omega
    have h5 : g j = 0 := by
      by_contra hc
      unfold nb at h4
      rw [if_pos (by omega)] at h4
      omega
    have := ih (by omega)
    omega

/-- At most one visit per block and one more per expert. -/
theorem nb_le (e : ℕ) : pre (nb g) e ≤ pre g e / 256 + e := by
  induction e with
  | zero => simp [pre_zero]
  | succ e ih =>
    have h2 := pre_succ (nb g) e
    have h3 := pre_succ g e
    have h4 : nb g e ≤ (pre g (e + 1) + 255) / 256 - pre g e / 256 := by
      unfold nb
      split <;> omega
    omega

variable (hsum : pre g 16 = 32768)
include hsum

/-- There is a visit. -/
theorem tot_pos : 0 < tot g := by
  by_contra hc
  have : pre (nb g) 0 = pre (nb g) 16 := by
    have : pre (nb g) 16 = tot g := rfl
    rw [pre_zero]; omega
  have := pre_eq_of_nb g (by omega : 0 ≤ 16) this
  rw [hsum, pre_zero] at this
  omega

/-- The grid is long enough. -/
theorem tot_le : tot g ≤ 144 := by
  have := nb_le g 16
  unfold tot
  omega

/-- The expert of a point is one of the sixteen, and the visit is one of that expert's. -/
theorem ex_spec (t : ℕ) : ex g t < 16 ∧ pre (nb g) (ex g t) ≤ vis g t ∧ vis g t < pre (nb g) (ex g t + 1) := by
  have h0 := tot_pos g hsum
  have hv : vis g t < pre (nb g) 16 := by
    have : pre (nb g) 16 = tot g := rfl
    unfold vis; omega
  obtain ⟨e, he, h1, h2⟩ := pre_between (nb g) 16 _ hv
  have : ex g t = e := count_pre (nb g) 16 _ e he h1 h2
  rw [this]
  exact ⟨he, h1, h2⟩

/-- What is known of one point, in plain numbers. -/
theorem point (t : ℕ) : ∃ e v P P' Q Q' b, ex g t = e ∧ vis g t = v ∧ pre g e = P ∧ pre g (e + 1) = P' ∧ pre (nb g) e = Q ∧ pre (nb g) (e + 1) = Q' ∧
    blk g t = b ∧ e < 16 ∧ Q ≤ v ∧ v < Q' ∧ P < P' ∧ P' ≤ 32768 ∧ Q' = Q + ((P' + 255) / 256 - P / 256) ∧ b = P / 256 + (v - Q) ∧
    lo g t = max P (256 * b) ∧ hi g t = min P' (256 * (b + 1)) := by
  obtain ⟨h1, h2, h3⟩ := ex_spec g hsum t
  have h4 := pre_succ g (ex g t)
  have h5 := pre_succ (nb g) (ex g t)
  have h6 : 0 < g (ex g t) := by
    by_contra hc
    have : nb g (ex g t) = 0 := by unfold nb; rw [if_neg hc]
    omega
  have h7 : nb g (ex g t) = (pre g (ex g t + 1) + 255) / 256 - pre g (ex g t) / 256 := by unfold nb; rw [if_pos h6]
  have h8 := pre_mono g (show ex g t + 1 ≤ 16 by omega)
  refine ⟨_, _, _, _, _, _, _, rfl, rfl, rfl, rfl, rfl, rfl, rfl, h1, h2, h3, by omega, by omega, by rw [h5, h7], rfl, rfl, rfl⟩

/-- The block is one of the 128. -/
theorem blk_lt (t : ℕ) : blk g t < 128 := by
  obtain ⟨e, v, P, P', Q, Q', b, -, -, -, -, -, -, hb, -, h1, h2, h3, h4, h5, h6, -, -⟩ := point g hsum t
  omega

/-- A point computes rows of its own block. -/
theorem lo_hi (t : ℕ) : lo g t < hi g t ∧ 256 * blk g t ≤ lo g t ∧ hi g t ≤ 256 * (blk g t + 1) := by
  obtain ⟨e, v, P, P', Q, Q', b, -, -, -, -, -, -, hb, -, h1, h2, h3, h4, h5, h6, h7, h8⟩ := point g hsum t
  omega

/-- The first visit starts at the first row. -/
theorem lo_zero : lo g 0 = 0 ∧ blk g 0 = 0 := by
  have hp := point g hsum 0
  have hv : vis g 0 = 0 := by simp [vis]
  obtain ⟨e, v, P, P', Q, Q', b, he, hv', hP, -, hQ, -, hb, -, h1, h2, h3, h4, h5, h6, h7, h8⟩ := hp
  have hQ0 : Q = 0 := by omega
  have hP0 : P = 0 := by
    rw [← hP, ← pre_eq_of_nb g (Nat.zero_le e) (by rw [hQ, pre_zero, hQ0]), pre_zero]
  omega

/-- The next visit starts where the last one stopped: in the same block, or in the next block with this one finished. -/
theorem step (t : ℕ) (ht : t + 1 < tot g) : lo g (t + 1) = hi g t ∧
    (blk g (t + 1) = blk g t ∨ (blk g (t + 1) = blk g t + 1 ∧ hi g t = 256 * (blk g t + 1))) := by
  have hv : vis g t = t := by unfold vis; omega
  have hv2 : vis g (t + 1) = t + 1 := by unfold vis; omega
  obtain ⟨e, v, P, P', Q, Q', b, he, hw, hP, hP', hQ, hQ', hb, he16, h1, h2, h3, h4, h5, h6, h7, h8⟩ := point g hsum t
  obtain ⟨e2, v2, P2, P2', Q2, Q2', b2, he2, hw2, hP2, hP2', hQ2, hQ2', hb2, he216, i1, i2, i3, i4, i5, i6, i7, i8⟩ := point g hsum (t + 1)
  rcases Nat.lt_or_ge (t + 1) Q' with hlt | hge
  · have : e2 = e := by
      rw [← he2]
      exact count_pre (nb g) 16 _ e he16 (by rw [hQ]; omega) (by rw [hQ']; omega)
    subst this
    omega
  · have hle : e + 1 ≤ e2 := by
      by_contra hc
      have := pre_mono (nb g) (show e2 + 1 ≤ e + 1 by omega)
      omega
    have hm := pre_mono (nb g) hle
    have : P' = P2 := by
      rw [← hP', ← hP2]
      exact pre_eq_of_nb g hle (by omega)
    omega

/-- The last visit ends at the last row. -/
theorem hi_last (t : ℕ) (ht : tot g ≤ t + 1) : hi g t = 32768 ∧ blk g t = 127 := by
  have h0 := tot_pos g hsum
  have hv : vis g t = tot g - 1 := by unfold vis; omega
  obtain ⟨e, v, P, P', Q, Q', b, he, hw, hP, hP', hQ, hQ', hb, he16, h1, h2, h3, h4, h5, h6, h7, h8⟩ := point g hsum t
  have hm := pre_mono (nb g) (show e + 1 ≤ 16 by omega)
  have ht' : pre (nb g) 16 = tot g := rfl
  have : pre g (e + 1) = pre g 16 := pre_eq_of_nb g (show e + 1 ≤ 16 by omega) (by omega)
  omega

/-- Points beyond the last visit repeat it. -/
theorem idle (t : ℕ) (ht : tot g ≤ t + 1) : ex g (t + 1) = ex g t ∧ blk g (t + 1) = blk g t ∧ hi g (t + 1) = hi g t := by
  have hv : vis g (t + 1) = vis g t := by unfold vis; omega
  have he : ex g (t + 1) = ex g t := by unfold ex; rw [hv]
  have hb : blk g (t + 1) = blk g t := by unfold blk; rw [hv, he]
  exact ⟨he, hb, by unfold hi; rw [he, hb]⟩

/-- From one point to the next: in the same block, or in the next block with this one finished. -/
theorem next (t : ℕ) : blk g (t + 1) = blk g t ∨ (blk g (t + 1) = blk g t + 1 ∧ hi g t = 256 * (blk g t + 1)) := by
  rcases Nat.lt_or_ge (t + 1) (tot g) with h | h
  · exact (step g hsum t h).2
  · exact Or.inl (idle g hsum t h).2.1

/-- Every row is computed at a point. -/
theorem reach (r : ℕ) (hr : r < 32768) : ∃ t, t < tot g ∧ lo g t ≤ r ∧ r < hi g t := by
  have h0 := tot_pos g hsum
  by_contra hc
  push Not at hc
  have : ∀ t, t < tot g → hi g t ≤ r := by
    intro t
    induction t with
    | zero => intro ht; exact hc 0 ht (by rw [(lo_zero g hsum).1]; omega)
    | succ t ih => intro ht; exact hc _ ht (by rw [(step g hsum t ht).1]; exact ih (by omega))
  have h1 := this (tot g - 1) (by omega)
  rw [(hi_last g hsum _ (by omega)).1] at h1
  omega

/-- Every block has a last point: the grid ends there, or the next point is in another block. -/
theorem last_of_block (b : ℕ) (hb : b < 128) : ∃ t, t < 144 ∧ blk g t = b ∧ (t = 143 ∨ blk g (t + 1) ≠ b) := by
  obtain ⟨t0, ht0, h1, h2⟩ := reach g hsum (256 * b) (by omega)
  have hT := tot_le g hsum
  have hl := lo_hi g hsum t0
  have hb0 : blk g t0 = b := by omega
  by_contra hc
  push Not at hc
  have : ∀ d, t0 + d < 144 → blk g (t0 + d) = b := by
    intro d
    induction d with
    | zero => intro _; exact hb0
    | succ d ih =>
      intro hd
      exact (hc (t0 + d) (by omega) (ih (by omega))).2
  have h143 := this (143 - t0) (by omega)
  exact (hc _ (by omega) h143).1 (by omega)

/-- A point's block is finished when the block changes after it or the grid ends. -/
theorem finished (t : ℕ) (ht : t = 143 ∨ blk g (t + 1) ≠ blk g t) : hi g t = 256 * (blk g t + 1) := by
  rcases ht with rfl | h
  · have hT := tot_le g hsum
    have := hi_last g hsum 143 (by omega)
    omega
  · rcases next g hsum t with h' | h'
    · exact absurd h' h
    · exact h'.2

/-- The expert of a computed row, counted from the group ends: the number of groups that end at or before the row. -/
theorem count_row (t r : ℕ) (h1 : lo g t ≤ r) (h2 : r < hi g t) : Nat.count (fun e => pre g (e + 1) ≤ r) 16 = ex g t := by
  obtain ⟨e, v, P, P', Q, Q', b, he, -, hP, hP', -, -, -, he16, -, -, -, -, -, -, h7, h8⟩ := point g hsum t
  rw [he]
  exact count_pre g 16 r e he16 (by omega) (by omega)

end Cert.Sched
-- ==== Proof.Pre.lean ====
/- What the precondition says of the group sizes: as naturals they partition the 32768 rows. -/
module

public import proofs.«01_k».proof.Pre_groups_partition_rows
public import proofs.«01_k».proof.Proof.Sched
public import Idealize.ShloMosaic.Lib.Routing.OpsSearch

@[expose] public section

noncomputable section

namespace Cert.Sched

open Idealize.ShloMosaic Idealize.ShloMosaic.ValueIdx Idealize.ShloMosaic.Routing Idealize.ShloMosaic.WordCmp

variable [Cert.Pre_groups_partition_rows.Facts]

/-- The words of the group sizes as naturals. -/
def sizes (a : IVec (shape1 16) 32) (i : ℕ) : ℕ := if h : i < 16 then (a (ix1 ⟨i, h⟩)).toNat else 0

/-- Each word is the word of its natural. -/
theorem sizes_word (a : IVec (shape1 16) 32) (i : Fin 16) : a (ix1 i) = BitVec.ofNat 32 (sizes a i.val) := by
  unfold sizes
  rw [dif_pos i.isLt]
  exact (BitVec.ofNat_toNat _ _).symm ▸ (by simp)

/-- Two bits whose conjunction is set are both set. -/
theorem and_bits : ∀ a b : BitVec 1, IntOp.andi a b = 1#1 → a = 1#1 ∧ b = 1#1 := by decide

/-- A sum of numbers each at most `b` is at most as many times `b`. -/
theorem pre_le (f : ℕ → ℕ) (b n : ℕ) (h : ∀ i, i < n → f i ≤ b) : pre f n ≤ n * b := by
  induction n with
  | zero => simp [pre_zero]
  | succ n ih =>
    have := ih fun i hi => h i (by omega)
    have := h n (by omega)
    rw [pre_succ, Nat.succ_mul]
    omega

/-- Where the precondition holds the group sizes sum to the number of rows. -/
theorem sizes_sum {F : FTy → Type} [FloatOps F] (x a s w ws)
    (h : Cert.Pre_groups_partition_rows.fn (F := F) x a s w ws = fun _ => 1#1) : pre (sizes a) 16 = 32768 := by
  have hi : ∀ i : Fin 16, (IntOp.cmpi .sge (a (ix1 i)) 0#32 = 1#1 ∧ IntOp.cmpi .sle (a (ix1 i)) 32768#32 = 1#1) ∧
      IntOp.cmpi .eq (Host.reduce IntOp.addi a (constantI shape0 32 0#32) Cert.Pre_groups_partition_rows.Facts.reducesTo_S16_S_d0 Cert.Pre_groups_partition_rows.Facts.h_S_ ix0) 32768#32 = 1#1 := by
    intro i
    have h1 := congrFun h (ix1 i)
    obtain ⟨h2, h3⟩ := and_bits _ _ h1
    exact ⟨and_bits _ _ h2, by rw [← h3]; exact congrArg (fun j => IntOp.cmpi .eq (Host.reduce IntOp.addi a (constantI shape0 32 0#32) _ _ j) 32768#32) (eq_ix0 _).symm⟩
  have hle : ∀ i, i < 16 → sizes a i ≤ 32768 := by
    intro i hi16
    obtain ⟨⟨h1, h2⟩, -⟩ := hi ⟨i, hi16⟩
    unfold sizes
    rw [dif_pos hi16]
    rw [cmpi_sge_zero, ofBool_decide_eq_one_iff] at h1
    rw [cmpi_sle_of_lt h1 (by decide), ofBool_decide_eq_one_iff] at h2
    exact h2
  have hs := (hi 0).2
  rw [reduce_sum a (sizes a) (sizes_word a)] at hs
  have hb := pre_le (sizes a) 32768 16 hle
  exact (cmpi_eq_ofNat_eq_one_iff (w := 32) (by show pre (sizes a) 16 < 2 ^ 32; omega) (by decide)).1 hs

end Cert.Sched
-- ==== Proof.P.Kit.lean ====
/- What the run of the kernel program shares: the buffers when its region is entered, the five prefetched tables,
   the blocks of its windows, and its body as the pipeline calls it. -/
module

public import proofs.«01_k».proof.Proof.Gen.Kernel.Launch
public import proofs.«01_k».proof.Proof.Gen.Kernel.Skeleton
public import Idealize.ShloMosaic.Lib.Pipeline.FrameBody
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, all stretches in order. -/
abbrev hostLine : List (HloOp τ sig (Elt F)) := List.flatten [hostOps0, hostOps0_1, hostOps0_2, hostOps0_3, hostOps0_4, hostOps0_5, hostOps0_6, hostOps0_7, hostOps0_8]

/-- Core `c`'s buffers when the region is entered: after the host operations. -/
abbrev V (c : Dev nD) (b : Ref sig .tc) : Buf (Elt F) ((c : Thread nD τ).loc b) :=
  StableHlo.after (hostLine (F := F)) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 1600000 in
/-- @main up to the region: the lines of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The tables' contents when the region is entered (the program runs on one device). -/
def tbl : pre0.Contents (Elt F) := fun j => V m (0 : Dev nD) (pre0.ref j)
/-- On every device the tables hold those contents. -/
theorem V_pre (c : Dev nD) (j : Fin 5) : V m c (pre0.ref j) = tbl m j := by
  obtain rfl : c = 0 := Subsingleton.elim _ _; rfl
/-- The tables keep every block inside its array. -/
abbrev Ok : Prop := ok0 (F := F) (tbl m)
/-- The tables as admissible contents, and the pipeline at them. -/
abbrev adm (hO : Ok m) : (pcfg0 (F := F)).Adm := ⟨tbl m, hO⟩
abbrev cfgM (hO : Ok m) : Pipeline.Cfg sig Λ₀ := cfg0 (adm m hO)

abbrev tbM0_0 : Memref sig .tc .smem S144 .i32 := Memref.whole main_v42
abbrev htbM0_0 : tbM0_0.IsWhole := Memref.isWhole_whole _
abbrev tbM0_1 : Memref sig .tc .smem S144 .i32 := Memref.whole main_v25
abbrev htbM0_1 : tbM0_1.IsWhole := Memref.isWhole_whole _
abbrev tbM0_2 : Memref sig .tc .smem S16 .i32 := Memref.whole main_v1
abbrev htbM0_2 : tbM0_2.IsWhole := Memref.isWhole_whole _
abbrev tbM0_3 : Memref sig .tc .smem S16 .i32 := Memref.whole main_v0
abbrev htbM0_3 : tbM0_3.IsWhole := Memref.isWhole_whole _
abbrev tbM0_4 : Memref sig .tc .smem S1 .i32 := Memref.whole main_v43
abbrev htbM0_4 : tbM0_4.IsWhole := Memref.isWhole_whole _

/-- A table memref's buffer on core `c`: its contents type, and the half of it the body is handed. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body as the pipeline calls it -/

abbrev ms0_0 (hO : Ok m) (t : Fin (cfgM m hO).N) : Memref sig .tc .smem S16 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x4096 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x5120x4096 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x5120 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x5120 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operand: a whole buffer of the kernel's own. -/
abbrev scM0_0 : Memref sig .tc .vmem S256x4096 .fp8e4m3 := Memref.whole cc0_scratch0

/-- The invariant's scratch part with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The kernel body at point `t`, on what the pipeline calls it with. -/
abbrev bodyAt0 (hO : Ok m) (t : Fin (cfgM m hO).N) : Prog (TpuEff nD τ sig (Elt F) Λ₀ .tc) PUnit :=
  cc0_grouped_fp8_proj (grid0.coords t) tbM0_0 htbM0_0 tbM0_1 htbM0_1 tbM0_2 htbM0_2 tbM0_3 htbM0_3 tbM0_4 htbM0_4 (ms0_0 m hO t) (hs0_0 m hO t) (ms0_1 m hO t) (hs0_1 m hO t) (ms0_2 m hO t) (hs0_2 m hO t) (ms0_3 m hO t) (hs0_3 m hO t) (ms0_4 m hO t) (hs0_4 m hO t) (Memref.whole cc0_scratch0) (Memref.isWhole_whole _)

/-- The body table's row at point `t`'s slots is that body. -/
theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

end Cert.Kernel.Run

end
-- ==== Proof.P.Reads.lean ====
/- What the host operations of the kernel program leave in the buffers that the tables are read from, each as one line
   over the buffers before it. -/
module

public import proofs.«01_k».proof.Proof.P.Kit
public import proofs.«01_k».proof.Proof.Sched
public import Idealize.ShloMosaic.Lib.Routing.OpsSearch
public import Idealize.ShloMosaic.Lib.StableHlo.ReadAt
@[expose] public section
set_option maxRecDepth 16384
noncomputable section
namespace Cert.Kernel.Run
open Cert.Kernel.Gen
open Idealize.ShloMosaic Idealize.ShloMosaic.TcCoe Idealize.ShloMosaic.Tactic
variable {F : FTy → Type} [FloatOps F]
variable (m : (ℓ : Loc nD τ sig) → Buf (Elt F) ℓ)

/-- The group ends: the running sums of the group sizes. -/
theorem V_v0 (c : Dev nD) : V m c main_v0 = Host.reduceWindow IntOp.addi ![16] ![1] ![15] ![0] (V m c main_arg1 : IVec S16 32)
    (broadcastInDim S_ ![] bcast_S_S_ (constantI S_ 32 0#32)) reduceWindows_S16_S16_w16s1p15_0 h_S_ := by
  unfold V
  after_reads_simp
  simp -implicitDefEqProofs only [StableHlo.TRef.toBuf, StableHlo.TRef.ofBuf, cast_cast, cast_eq, id]

/-- The group starts: the ends less the sizes. -/
theorem V_v1 (c : Dev nD) : V m c main_v1 = subi (V m c main_v0 : IVec S16 32) (V m c main_arg1 : IVec S16 32) := by
  unfold V
  after_reads_simp

/-- The first block of each group. -/
theorem V_v2 (c : Dev nD) : V m c main_v2 = Routing.pyDiv (s := S16) bcast_S_S16 (V m c main_v1 : IVec S16 32) (constantI S_ 32 256#32) := by
  unfold V Routing.pyDiv
  after_reads_simp
  simp -implicitDefEqProofs only [StableHlo.TRef.toBuf, StableHlo.TRef.ofBuf, cast_cast, cast_eq, id]

/-- One past the last block of each group. -/
theorem V_v7 (c : Dev nD) : V m c main_v7 = Routing.pyDiv (s := S16) bcast_S_S16 (subi (addi (V m c main_v0 : IVec S16 32) (broadcastInDim S16 ![] bcast_S_S16 (constantI S_ 32 256#32))) (broadcastInDim S16 ![] bcast_S_S16 (constantI S_ 32 1#32))) (constantI S_ 32 256#32) := by
  unfold V Routing.pyDiv
  after_reads_simp
  simp -implicitDefEqProofs only [StableHlo.TRef.toBuf, StableHlo.TRef.ofBuf, cast_cast, cast_eq, id]

/-- The number of visits of each group, none for an empty group. -/
theorem V_v11 (c : Dev nD) : V m c main_v11 = select (cmpi .sgt (V m c main_arg1 : IVec S16 32) (broadcastInDim S16 ![] bcast_S_S16 (constantI S_ 32 0#32)))
    (subi (V m c main_v7 : IVec S16 32) (V m c main_v2 : IVec S16 32)) (broadcastInDim S16 ![] bcast_S_S16 (constantI S_ 32 0#32)) := by
  unfold V
  after_reads_simp
  simp -implicitDefEqProofs only [StableHlo.TRef.toBuf, StableHlo.TRef.ofBuf, cast_cast, cast_eq, id]

/-- The running sums of the visits. -/
theorem V_v12 (c : Dev nD) : V m c main_v12 = Host.reduceWindow IntOp.addi ![16] ![1] ![15] ![0] (V m c main_v11 : IVec S16 32)
    (broadcastInDim S_ ![] bcast_S_S_ (constantI S_ 32 0#32)) reduceWindows_S16_S16_w16s1p15_0 h_S_ := by
  unfold V
  after_reads_simp
  simp -implicitDefEqProofs only [StableHlo.TRef.toBuf, StableHlo.TRef.ofBuf, cast_cast, cast_eq, id]

/-- The number of all visits. -/
theorem V_v43 (c : Dev nD) : V m c main_v43 = extractStridedSlice S1 ![15] (V m c main_v12 : IVec S16 32) slices_S16_S1_15 := by
  unfold V
  after_reads_simp

/-- The visit of each grid point, the last one repeated. -/
theorem V_v18 (c : Dev nD) : V m c main_v18 = minsi (iotaInDim S144 32 0)
    (broadcastInDim S144 ![] bcast_S_S144 (subi (shapeCast S_ (V m c main_v43 : IVec S1 32) shapeCasts_S1_S_) (constantI S_ 32 1#32))) := by
  unfold V
  after_reads_simp
  simp -implicitDefEqProofs only [StableHlo.TRef.toBuf, StableHlo.TRef.ofBuf, cast_cast, cast_eq, id]
  rfl

/-- The expert of each grid point: the number of running sums it has reached. -/
theorem V_v25 (c : Dev nD) : V m c main_v25 = Host.reduce IntOp.addi (extui 32 (cmpi .sge
      (broadcastInDim S144x16 ![0, 1] bcast_S144x1_S144x16_0_1 (broadcastInDim S144x1 ![0] bcast_S144_S144x1_0 (V m c main_v18 : IVec S144 32)))
      (broadcastInDim S144x16 ![0, 1] bcast_S1x16_S144x16_0_1 (broadcastInDim S1x16 ![1] bcast_S16_S1x16_1 (V m c main_v12 : IVec S16 32)))) natLt_1_32)
    (constantI S_ 32 0#32) reducesTo_S144x16_S144_d1 h_S_ := by
  unfold V
  after_reads_simp

/-- The experts' words as jnp wraps them before a take. -/
abbrev wrapped (x : IVec S144 32) : IVec S144x1 32 := broadcastInDim S144x1 ![0] bcast_S144_S144x1_0
  (select (cmpi .slt x (broadcastInDim S144 ![] bcast_S_S144 (constantI S_ 32 0#32))) (addi x (broadcastInDim S144 ![] bcast_S_S144 (constantI S_ 32 16#32))) x)

/-- The block of each grid point. -/
theorem V_v42 (c : Dev nD) : V m c main_v42 = subi
    (addi (Host.gather gather_S16_S144x1_S144_n_0_n_n_0_1_1 (V m c main_v2 : IVec S16 32) (wrapped (V m c main_v25 : IVec S144 32))) (V m c main_v18 : IVec S144 32))
    (Host.gather gather_S16_S144x1_S144_n_0_n_n_0_1_1 (subi (V m c main_v12 : IVec S16 32) (V m c main_v11 : IVec S16 32)) (wrapped (V m c main_v25 : IVec S144 32))) := by
  unfold V wrapped
  after_reads_simp

/-- The weight scales with one more axis of extent one. -/
theorem V_v44 (c : Dev nD) : V m c main_v44 = shapeCast S16x1x5120 (V m c main_arg4 : FVec F S16x5120 .f32) shapeCasts_S16x5120_S16x1x5120 := by
  unfold V
  after_reads_simp
  rfl

end Cert.Kernel.Run
-- ==== Proof.P.Words.lean ====
/- The schedule's tables as numbers: each table the kernel prefetches holds, at each place, the word of the number that the
   schedule over the naturals gives there. -/
module

public import proofs.«01_k».proof.Proof.P.Reads
public import Idealize.ShloMosaic.Lib.PlanTiles.Rows

@[expose] public section

set_option maxRecDepth 16384

noncomputable section

namespace Cert.Kernel.Run

open Cert.Kernel.Gen Cert.Sched
open Idealize.ShloMosaic Idealize.ShloMosaic.TcCoe Idealize.ShloMosaic.ValueIdx Idealize.ShloMosaic.Routing Idealize.ShloMosaic.WordCmp

variable {F : FTy → Type} [FloatOps F]
variable (m : (ℓ : Loc nD τ sig) → Buf (Elt F) ℓ)

/-- The two takes at the experts and the sum and difference around them, at one grid point whose expert is `e`. -/
theorem taken (a b d : IVec S16 32) (v w : IVec S144 32) (t : Fin 144) (e : Fin 16) (hw : wrapped w (ValueIdx.ix2 t (0 : Fin 1)) = BitVec.ofNat 32 e.val) :
    subi (addi (Host.gather gather_S16_S144x1_S144_n_0_n_n_0_1_1 a (wrapped w)) v) (Host.gather gather_S16_S144x1_S144_n_0_n_n_0_1_1 (subi b d) (wrapped w)) (ValueIdx.ix1 t)
      = a (ValueIdx.ix1 e) + v (ValueIdx.ix1 t) - (b (ValueIdx.ix1 e) - d (ValueIdx.ix1 e)) := by
  rw [subi_ap, addi_ap, gather_take1 gather_S16_S144x1_S144_n_0_n_n_0_1_1 rfl rfl rfl rfl _ _ t e hw (by decide),
    gather_take1 gather_S16_S144x1_S144_n_0_n_n_0_1_1 rfl rfl rfl rfl _ _ t e hw (by decide), subi_ap]

/-- The group sizes in memory are the naturals `g`, and they partition the 32768 rows. -/
structure Groups (g : ℕ → ℕ) : Prop where
  arg : ∀ i : Fin 16, (V m (0 : Dev nD) main_arg1 : IVec S16 32) (ValueIdx.ix1 i) = BitVec.ofNat 32 (g i.val)
  sum : pre g 16 = 32768

variable {m} {g : ℕ → ℕ} (hg : Groups m g)
include hg

/-- Every group lies in the rows. -/
theorem Groups.le {i : ℕ} (hi : i ≤ 16) : pre g i ≤ 32768 := by
  rw [← hg.sum]; exact pre_mono g hi

/-- The visits are at most 144. -/
theorem Groups.q_le {i : ℕ} (hi : i ≤ 16) : pre (nb g) i ≤ 144 :=
  (pre_mono (nb g) hi).trans (tot_le g hg.sum)

/-- The end of each group. -/
theorem w_v0 (i : Fin 16) : (V m (0 : Dev nD) main_v0 : IVec S16 32) (ValueIdx.ix1 i) = BitVec.ofNat 32 (pre g (i.val + 1)) := by
  rw [V_v0]
  exact cumsum1 (Nm1 := 15) rfl _ g hg.arg _ rfl _ _ i

/-- The start of each group. -/
theorem w_v1 (i : Fin 16) : (V m (0 : Dev nD) main_v1 : IVec S16 32) (ValueIdx.ix1 i) = BitVec.ofNat 32 (pre g i.val) := by
  rw [V_v1, subi_ap, w_v0 hg, hg.arg, ofNat32_sub (by rw [pre_succ]; omega), pre_succ]
  congr 1; omega

/-- The first block of each group. -/
theorem w_v2 (i : Fin 16) : (V m (0 : Dev nD) main_v2 : IVec S16 32) (ValueIdx.ix1 i) = BitVec.ofNat 32 (pre g i.val / 256) := by
  have := hg.le (show i.val ≤ 16 by omega)
  rw [V_v2]
  exact pyDiv_ap _ _ _ _ (w_v1 hg i) rfl (by omega) (by omega) (by omega)

/-- One past the last block of each group. -/
theorem w_v7 (i : Fin 16) : (V m (0 : Dev nD) main_v7 : IVec S16 32) (ValueIdx.ix1 i) = BitVec.ofNat 32 ((pre g (i.val + 1) + 255) / 256) := by
  have := hg.le (show i.val + 1 ≤ 16 by omega)
  rw [V_v7]
  refine pyDiv_ap _ _ _ _ ?_ rfl (by omega) (by omega) (by omega)
  rw [subi_ap, addi_ap, w_v0 hg, bc0, bc0, constantI_at, constantI_at, BitVec.ofNat_add_ofNat, show (1#32 : BitVec 32) = BitVec.ofNat 32 1 from rfl,
    ofNat32_sub (by omega)]
  congr 1

/-- The number of visits of each group. -/
theorem w_v11 (i : Fin 16) : (V m (0 : Dev nD) main_v11 : IVec S16 32) (ValueIdx.ix1 i) = BitVec.ofNat 32 (nb g i.val) := by
  have h1 := hg.le (show i.val + 1 ≤ 16 by omega)
  have h2 := pre_succ g i.val
  rw [V_v11, select_at, cmpi_at, subi_ap, hg.arg, w_v7 hg, w_v2 hg, bc0, constantI_at, show (0#32 : BitVec 32) = BitVec.ofNat 32 0 from rfl,
    cmpi_sgt_ofNat (w := 32) (by omega) (by omega), select_decide, ofNat32_sub (by omega)]
  unfold nb
  split <;> rfl

/-- The running sums of the visits. -/
theorem w_v12 (i : Fin 16) : (V m (0 : Dev nD) main_v12 : IVec S16 32) (ValueIdx.ix1 i) = BitVec.ofNat 32 (pre (nb g) (i.val + 1)) := by
  rw [V_v12]
  exact cumsum1 (Nm1 := 15) rfl _ (nb g) (w_v11 hg) _ rfl _ _ i

/-- The number of all visits. -/
theorem w_v43 : (V m (0 : Dev nD) main_v43 : IVec S1 32) (ValueIdx.ix1 (0 : Fin 1)) = BitVec.ofNat 32 (tot g) := by
  rw [V_v43]
  exact (slice1 15 _ _ (0 : Fin 1) (by decide)).trans (w_v12 hg 15)

/-- The visit of each grid point. -/
theorem w_v18 (t : Fin 144) : (V m (0 : Dev nD) main_v18 : IVec S144 32) (ValueIdx.ix1 t) = BitVec.ofNat 32 (vis g t.val) := by
  have h0 := tot_pos g hg.sum
  have h1 := tot_le g hg.sum
  have ht := t.isLt
  have hs : shapeCast S_ (V m (0 : Dev nD) main_v43 : IVec S1 32) shapeCasts_S1_S_ ValueIdx.ix0 = BitVec.ofNat 32 (tot g) := by
    rw [← w_v43 hg]
    unfold shapeCast
    exact congrArg (V m (0 : Dev nD) main_v43 : IVec S1 32) (funext fun a => match a with | ⟨0, _⟩ => Subsingleton.elim (α := Fin 1) _ _)
  rw [V_v18]
  show IntOp.minsi (iotaInDim S144 32 0 (ValueIdx.ix1 t)) _ = _
  rw [bc0, subi_ap, hs, constantI_at, show (1#32 : BitVec 32) = BitVec.ofNat 32 1 from rfl, ofNat32_sub (by omega), iota1_ap]
  exact (PlanTiles.minsi_word (by omega) (by omega)).trans (by unfold vis; rw [Nat.min_comm])

/-- The expert of each grid point. -/
theorem w_v25 (t : Fin 144) : (V m (0 : Dev nD) main_v25 : IVec S144 32) (ValueIdx.ix1 t) = BitVec.ofNat 32 (ex g t.val) := by
  have h0 := tot_pos g hg.sum
  have h1 := tot_le g hg.sum
  rw [V_v25]
  refine reduce_count (n := 144) (m := 16) (by decide) _ _ _ _ t (fun e => pre (nb g) (e + 1) ≤ vis g t.val) fun q => ?_
  have hq := hg.q_le (show q.val + 1 ≤ 16 by omega)
  have hv : vis g t.val < 2 ^ 31 := by unfold vis; omega
  rw [cmpi_at, bcCols, bcRows, w_v18 hg, w_v12 hg]
  exact cmpi_sge_ofNat_eq_one_iff (w := 32) hv (by omega)

/-- The wrapped expert of each grid point. -/
theorem w_wrapped (t : Fin 144) : wrapped (V m (0 : Dev nD) main_v25 : IVec S144 32) (ValueIdx.ix2 t (0 : Fin 1)) = BitVec.ofNat 32 (ex g t.val) := by
  have h1 := (ex_spec g hg.sum t.val).1
  unfold wrapped
  rw [bcCol, select_at, cmpi_at, bc0, constantI_at, wrap_of_lt _ _ (by rw [w_v25 hg, toNat_ofNat_of_lt (by omega)]; omega), w_v25 hg]

/-- The block of each grid point. -/
theorem w_v42 (t : Fin 144) : (V m (0 : Dev nD) main_v42 : IVec S144 32) (ValueIdx.ix1 t) = BitVec.ofNat 32 (Sched.blk g t.val) := by
  obtain ⟨he, h1, h2⟩ := ex_spec g hg.sum t.val
  have h3 := pre_succ (nb g) (ex g t.val)
  refine (congrFun (V_v42 m (0 : Dev nD)) _).trans ((taken _ _ _ _ _ t ⟨ex g t.val, he⟩ (w_wrapped hg t)).trans ?_)
  rw [w_v12 hg ⟨ex g t.val, he⟩, w_v11 hg ⟨ex g t.val, he⟩, w_v2 hg ⟨ex g t.val, he⟩, w_v18 hg t]
  dsimp only
  rw [ofNat32_sub (by omega), BitVec.ofNat_add_ofNat, ofNat32_sub (by omega)]
  unfold Sched.blk
  congr 1
  omega

end Cert.Kernel.Run
-- ==== Proof.P.Body.lean ====
/- What one grid point of the kernel does to its output buffer: with its visit number below the total, every chunk of
   512 output columns takes the new value on the rows of the visit's expert and keeps the old value on the others;
   with its visit number at or past the total, nothing. -/
module

public import proofs.«01_k».proof.Proof.P.Kit
public import Idealize.ShloMosaic.Lib.Pipeline.FrameBody
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words a point reads -/

/-- The number of visits, read off the fifth table. -/
abbrev totW (c : Dev nD) (xt4 : TbBuf0 (F := F) c tbM0_4) : Elt F .i32 :=
  View.readAt (Elt F) tbM0_4.view (Rect.unit (s := S1) ![0] S1.size inb_S1_S1_0).toLoadRect xt4 (Shape.Idx.first (numel1_S1.symm ▸ Nat.one_pos))
/-- The expert of visit `i`, read off the second table. -/
abbrev expW (c : Dev nD) (i : grid0.Coords) (xt1 : TbBuf0 (F := F) c tbM0_1) : Elt F .i32 :=
  View.readAt (Elt F) tbM0_1.view (Rect.unit (s := S144) (k0_off2 i) S1.size (k0_off2_inb i)).toLoadRect xt1 (Shape.Idx.first (numel1_S1.symm ▸ Nat.one_pos))
/-- The block of visit `i`, read off the first table. -/
abbrev blkW (c : Dev nD) (i : grid0.Coords) (xt0 : TbBuf0 (F := F) c tbM0_0) : Elt F .i32 :=
  View.readAt (Elt F) tbM0_0.view (Rect.unit (s := S144) (k0_off4 i) S1.size (k0_off4_inb i)).toLoadRect xt0 (Shape.Idx.first (numel1_S1.symm ▸ Nat.one_pos))
/-- The first row of the expert `e`, read off the third table. -/
abbrev staW (c : Dev nD) (e : BitVec 32) (h : ∀ a, k0_off3 e a + S1.size a ≤ S16.size a) (xt2 : TbBuf0 (F := F) c tbM0_2) : Elt F .i32 :=
  View.readAt (Elt F) tbM0_2.view (Rect.unit (s := S16) (k0_off3 e) S1.size h).toLoadRect xt2 (Shape.Idx.first (numel1_S1.symm ▸ Nat.one_pos))
/-- The row past the last of the expert `e`, read off the fourth table. -/
abbrev endW (c : Dev nD) (e : BitVec 32) (h : ∀ a, k0_off3 e a + S1.size a ≤ S16.size a) (xt3 : TbBuf0 (F := F) c tbM0_3) : Elt F .i32 :=
  View.readAt (Elt F) tbM0_3.view (Rect.unit (s := S16) (k0_off3 e) S1.size h).toLoadRect xt3 (Shape.Idx.first (numel1_S1.symm ▸ Nat.one_pos))
/-- The scale of the expert `e`. -/
abbrev scaW (e : BitVec 32) (h : ∀ a, k0_off3 e a + S1.size a ≤ S16.size a) (x0 : Vec F S16 .f32) : Elt F .f32 :=
  View.ld x0 (Rect.unit (s := S16) (k0_off3 e) S1.size h) (Shape.Idx.first (numel1_S1.symm ▸ Nat.one_pos))

/-! ## The output buffer after a visit -/

/-- One chunk of 512 columns: the new values on the rows of the mask, the old ones elsewhere. -/
abbrev chunk (s : Elt F .f32) (mask : IVec S256x1 1) (q : FVec F S256x4096 .fp8e4m3) (w : Vec F S1x512x4096 .fp8e4m3)
    (ws : Vec F S1x1x512 .f32) (o : Vec F S256x512 .bf16) : FVec F S256x512 .bf16 :=
  k0_pay6 mask (k0_pay5 s q w ws) o

/-- The buffer after a visit, from the row mask and the quantised rows: ten chunks. -/
def newOutQ (s : Elt F .f32) (mask : IVec S256x1 1) (q : FVec F S256x4096 .fp8e4m3) (x2 : Vec F S1x5120x4096 .fp8e4m3)
    (x3 : Vec F S1x1x5120 .f32) (y : Vec F S256x5120 .bf16) : Vec F S256x5120 .bf16 :=
  View.canon [
    ⟨Rect.unit (s := S256x5120) ![0, 4608] S256x512.size inb_S256x5120_S256x512_0_4608,
      chunk s mask q (View.ld x2 (Rect.unit (s := S1x5120x4096) ![0, 4608, 0] S1x512x4096.size inb_S1x5120x4096_S1x512x4096_0_4608_0)) (View.ld x3 (Rect.unit (s := S1x1x5120) ![0, 0, 4608] S1x1x512.size inb_S1x1x5120_S1x1x512_0_0_4608)) (View.ld y (Rect.unit (s := S256x5120) ![0, 4608] S256x512.size inb_S256x5120_S256x512_0_4608))⟩,
    ⟨Rect.unit (s := S256x5120) ![0, 4096] S256x512.size inb_S256x5120_S256x512_0_4096,
      chunk s mask q (View.ld x2 (Rect.unit (s := S1x5120x4096) ![0, 4096, 0] S1x512x4096.size inb_S1x5120x4096_S1x512x4096_0_4096_0)) (View.ld x3 (Rect.unit (s := S1x1x5120) ![0, 0, 4096] S1x1x512.size inb_S1x1x5120_S1x1x512_0_0_4096)) (View.ld y (Rect.unit (s := S256x5120) ![0, 4096] S256x512.size inb_S256x5120_S256x512_0_4096))⟩,
    ⟨Rect.unit (s := S256x5120) ![0, 3584] S256x512.size inb_S256x5120_S256x512_0_3584,
      chunk s mask q (View.ld x2 (Rect.unit (s := S1x5120x4096) ![0, 3584, 0] S1x512x4096.size inb_S1x5120x4096_S1x512x4096_0_3584_0)) (View.ld x3 (Rect.unit (s := S1x1x5120) ![0, 0, 3584] S1x1x512.size inb_S1x1x5120_S1x1x512_0_0_3584)) (View.ld y (Rect.unit (s := S256x5120) ![0, 3584] S256x512.size inb_S256x5120_S256x512_0_3584))⟩,
    ⟨Rect.unit (s := S256x5120) ![0, 3072] S256x512.size inb_S256x5120_S256x512_0_3072,
      chunk s mask q (View.ld x2 (Rect.unit (s := S1x5120x4096) ![0, 3072, 0] S1x512x4096.size inb_S1x5120x4096_S1x512x4096_0_3072_0)) (View.ld x3 (Rect.unit (s := S1x1x5120) ![0, 0, 3072] S1x1x512.size inb_S1x1x5120_S1x1x512_0_0_3072)) (View.ld y (Rect.unit (s := S256x5120) ![0, 3072] S256x512.size inb_S256x5120_S256x512_0_3072))⟩,
    ⟨Rect.unit (s := S256x5120) ![0, 2560] S256x512.size inb_S256x5120_S256x512_0_2560,
      chunk s mask q (View.ld x2 (Rect.unit (s := S1x5120x4096) ![0, 2560, 0] S1x512x4096.size inb_S1x5120x4096_S1x512x4096_0_2560_0)) (View.ld x3 (Rect.unit (s := S1x1x5120) ![0, 0, 2560] S1x1x512.size inb_S1x1x5120_S1x1x512_0_0_2560)) (View.ld y (Rect.unit (s := S256x5120) ![0, 2560] S256x512.size inb_S256x5120_S256x512_0_2560))⟩,
    ⟨Rect.unit (s := S256x5120) ![0, 2048] S256x512.size inb_S256x5120_S256x512_0_2048,
      chunk s mask q (View.ld x2 (Rect.unit (s := S1x5120x4096) ![0, 2048, 0] S1x512x4096.size inb_S1x5120x4096_S1x512x4096_0_2048_0)) (View.ld x3 (Rect.unit (s := S1x1x5120) ![0, 0, 2048] S1x1x512.size inb_S1x1x5120_S1x1x512_0_0_2048)) (View.ld y (Rect.unit (s := S256x5120) ![0, 2048] S256x512.size inb_S256x5120_S256x512_0_2048))⟩,
    ⟨Rect.unit (s := S256x5120) ![0, 1536] S256x512.size inb_S256x5120_S256x512_0_1536,
      chunk s mask q (View.ld x2 (Rect.unit (s := S1x5120x4096) ![0, 1536, 0] S1x512x4096.size inb_S1x5120x4096_S1x512x4096_0_1536_0)) (View.ld x3 (Rect.unit (s := S1x1x5120) ![0, 0, 1536] S1x1x512.size inb_S1x1x5120_S1x1x512_0_0_1536)) (View.ld y (Rect.unit (s := S256x5120) ![0, 1536] S256x512.size inb_S256x5120_S256x512_0_1536))⟩,
    ⟨Rect.unit (s := S256x5120) ![0, 1024] S256x512.size inb_S256x5120_S256x512_0_1024,
      chunk s mask q (View.ld x2 (Rect.unit (s := S1x5120x4096) ![0, 1024, 0] S1x512x4096.size inb_S1x5120x4096_S1x512x4096_0_1024_0)) (View.ld x3 (Rect.unit (s := S1x1x5120) ![0, 0, 1024] S1x1x512.size inb_S1x1x5120_S1x1x512_0_0_1024)) (View.ld y (Rect.unit (s := S256x5120) ![0, 1024] S256x512.size inb_S256x5120_S256x512_0_1024))⟩,
    ⟨Rect.unit (s := S256x5120) ![0, 512] S256x512.size inb_S256x5120_S256x512_0_512,
      chunk s mask q (View.ld x2 (Rect.unit (s := S1x5120x4096) ![0, 512, 0] S1x512x4096.size inb_S1x5120x4096_S1x512x4096_0_512_0)) (View.ld x3 (Rect.unit (s := S1x1x5120) ![0, 0, 512] S1x1x512.size inb_S1x1x5120_S1x1x512_0_0_512)) (View.ld y (Rect.unit (s := S256x5120) ![0, 512] S256x512.size inb_S256x5120_S256x512_0_512))⟩,
    ⟨Rect.unit (s := S256x5120) ![0, 0] S256x512.size inb_S256x5120_S256x512_0_0,
      chunk s mask q (View.ld x2 (Rect.unit (s := S1x5120x4096) ![0, 0, 0] S1x512x4096.size inb_S1x5120x4096_S1x512x4096_0_0_0)) (View.ld x3 (Rect.unit (s := S1x1x5120) ![0, 0, 0] S1x1x512.size inb_S1x1x5120_S1x1x512_0_0_0)) (View.ld y (Rect.unit (s := S256x5120) ![0, 0] S256x512.size inb_S256x5120_S256x512_0_0))⟩]

/-- The ten chunks tile the buffer. -/
theorem cover_out (p0 p1 p2 p3 p4 p5 p6 p7 p8 p9 : Vec F S256x512 .bf16) (y : S256x5120.Idx) :
    ∃ pc ∈ ([⟨Rect.unit (s := S256x5120) ![0, 4608] S256x512.size inb_S256x5120_S256x512_0_4608, p9⟩, ⟨Rect.unit (s := S256x5120) ![0, 4096] S256x512.size inb_S256x5120_S256x512_0_4096, p8⟩, ⟨Rect.unit (s := S256x5120) ![0, 3584] S256x512.size inb_S256x5120_S256x512_0_3584, p7⟩, ⟨Rect.unit (s := S256x5120) ![0, 3072] S256x512.size inb_S256x5120_S256x512_0_3072, p6⟩, ⟨Rect.unit (s := S256x5120) ![0, 2560] S256x512.size inb_S256x5120_S256x512_0_2560, p5⟩, ⟨Rect.unit (s := S256x5120) ![0, 2048] S256x512.size inb_S256x5120_S256x512_0_2048, p4⟩, ⟨Rect.unit (s := S256x5120) ![0, 1536] S256x512.size inb_S256x5120_S256x512_0_1536, p3⟩, ⟨Rect.unit (s := S256x5120) ![0, 1024] S256x512.size inb_S256x5120_S256x512_0_1024, p2⟩, ⟨Rect.unit (s := S256x5120) ![0, 512] S256x512.size inb_S256x5120_S256x512_0_512, p1⟩, ⟨Rect.unit (s := S256x5120) ![0, 0] S256x512.size inb_S256x5120_S256x512_0_0, p0⟩] : List (View.Piece (Elt F) S256x5120 .bf16)), y ∈ pc.1.set :=
  View.cover_of_tiled [⟨Rect.unit (s := S256x5120) ![0, 4608] S256x512.size inb_S256x5120_S256x512_0_4608, p9⟩, ⟨Rect.unit (s := S256x5120) ![0, 4096] S256x512.size inb_S256x5120_S256x512_0_4096, p8⟩, ⟨Rect.unit (s := S256x5120) ![0, 3584] S256x512.size inb_S256x5120_S256x512_0_3584, p7⟩, ⟨Rect.unit (s := S256x5120) ![0, 3072] S256x512.size inb_S256x5120_S256x512_0_3072, p6⟩, ⟨Rect.unit (s := S256x5120) ![0, 2560] S256x512.size inb_S256x5120_S256x512_0_2560, p5⟩, ⟨Rect.unit (s := S256x5120) ![0, 2048] S256x512.size inb_S256x5120_S256x512_0_2048, p4⟩, ⟨Rect.unit (s := S256x5120) ![0, 1536] S256x512.size inb_S256x5120_S256x512_0_1536, p3⟩, ⟨Rect.unit (s := S256x5120) ![0, 1024] S256x512.size inb_S256x5120_S256x512_0_1024, p2⟩, ⟨Rect.unit (s := S256x5120) ![0, 512] S256x512.size inb_S256x5120_S256x512_0_512, p1⟩, ⟨Rect.unit (s := S256x5120) ![0, 0] S256x512.size inb_S256x5120_S256x512_0_0, p0⟩] S256x512.size (by rfl) y

/-- The buffer after a visit. -/
abbrev newOut (s : Elt F .f32) (bl st en : BitVec 32) (x1 : Vec F S256x4096 .bf16) (x2 : Vec F S1x5120x4096 .fp8e4m3)
    (x3 : Vec F S1x1x5120 .f32) (y : Vec F S256x5120 .bf16) : Vec F S256x5120 .bf16 :=
  newOutQ s (k0_pay4 (F := F) bl st en) (k0_pay3 s (View.ld x1 (Rect.unit (s := S256x4096) ![0, 0] S256x4096.size inb_S256x4096_S256x4096_0_0))) x2 x3 y

/-! ## The two runs of the body -/

set_option maxHeartbeats 1600000 in
/-- A point whose visit number is below the total. -/
theorem run_active (c : Dev nD) (i : grid0.Coords) (arg6 : Memref sig .tc .smem S16 .f32) (harg6 : arg6.IsWhole) (arg7 : Memref sig .tc .vmem S256x4096 .bf16) (harg7 : arg7.IsWhole) (arg8 : Memref sig .tc .vmem S1x5120x4096 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x4096 .fp8e4m3) (harg11 : arg11.IsWhole)
    (x0 : Vec F S16 .f32) (x1 : Vec F S256x4096 .bf16) (x2 : Vec F S1x5120x4096 .fp8e4m3) (x3 : Vec F S1x1x5120 .f32) (y : Vec F S256x5120 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (hc : k0_cond1 i (totW c xt4) = 1#1) (hk : k0_chk1 i (totW c xt4) (expW c i xt1)) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare y ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare (newOut (scaW (expW c i xt1) (hk hc) x0) (blkW c i xt0) (staW c (expW c i xt1) (hk hc) xt2) (endW c (expW c i xt1) (hk hc) xt3) x1 x2 x3 y) ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_grouped_fp8_proj i tbM0_0 htbM0_0 tbM0_1 htbM0_1 tbM0_2 htbM0_2 tbM0_3 htbM0_3 tbM0_4 htbM0_4 arg6 harg6 arg7 harg7 arg8 harg8 arg9 harg9 arg10 harg10 arg11 harg11) K := by
    intro E K
    simp only [cc0_grouped_fp8_proj_eq_skeleton]; unfold cc0_grouped_fp8_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, HT2, HT3, HT4, Hk⟩
    subst hf0 hf1 hf2 hf3 hf4
    sl_exec (disch := first | exact hc | exact hk)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      have hq : run_active.sl.v35 c i arg6 arg7 arg11 xt1 xt4 hc hk f0 f1
          = k0_pay3 (scaW (expW c i xt1) (hk hc) (arg6.view.read (Elt F) f0)) (View.ld (arg7.view.read (Elt F) f1) (Rect.unit (s := S256x4096) ![0, 0] S256x4096.size inb_S256x4096_S256x4096_0_0)) := by
        delta run_active.sl.v35
        exact View.readCov_cons_toLoadRect _ _ _ _
      refine (View.read_writes_eq_canon _ _ _ (cover_out _ _ _ _ _ _ _ _ _ _)).trans ?_
      refine Eq.trans ?_ (congrArg (fun q => newOutQ (scaW (expW c i xt1) (hk hc) (arg6.view.read (Elt F) f0)) (k0_pay4 (F := F) (blkW c i xt0) (staW c (expW c i xt1) (hk hc) xt2) (endW c (expW c i xt1) (hk hc) xt3)) q (arg8.view.read (Elt F) f2) (arg9.view.read (Elt F) f3) (arg10.view.read (Elt F) f4)) hq)
      rfl
    isplitl [HS0]
    · iexists _, _; isplitr; swap; · iexact HS0
      ipureintro; rfl
    isplitl [HT0]; · iexact HT0
    isplitl [HT1]; · iexact HT1
    isplitl [HT2]; · iexact HT2
    isplitl [HT3]; · iexact HT3
    iexact HT4

set_option maxHeartbeats 1600000 in
/-- A point whose visit number is not below the total leaves the output buffer as it was. -/
theorem run_idle (c : Dev nD) (i : grid0.Coords) (arg6 : Memref sig .tc .smem S16 .f32) (harg6 : arg6.IsWhole) (arg7 : Memref sig .tc .vmem S256x4096 .bf16) (harg7 : arg7.IsWhole) (arg8 : Memref sig .tc .vmem S1x5120x4096 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x4096 .fp8e4m3) (harg11 : arg11.IsWhole)
    (x0 : Vec F S16 .f32) (x1 : Vec F S256x4096 .bf16) (x2 : Vec F S1x5120x4096 .fp8e4m3) (x3 : Vec F S1x1x5120 .f32) (y : Vec F S256x5120 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (hc : ¬ k0_cond1 i (totW c xt4) = 1#1) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare y ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare y ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_grouped_fp8_proj i tbM0_0 htbM0_0 tbM0_1 htbM0_1 tbM0_2 htbM0_2 tbM0_3 htbM0_3 tbM0_4 htbM0_4 arg6 harg6 arg7 harg7 arg8 harg8 arg9 harg9 arg10 harg10 arg11 harg11) K := by
    intro E K
    simp only [cc0_grouped_fp8_proj_eq_skeleton]; unfold cc0_grouped_fp8_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, HT2, HT3, HT4, Hk⟩
    subst hf0 hf1 hf2 hf3 hf4
    sl_exec (disch := first | exact hc )
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HS0]
    · iexists _, _; isplitr; swap; · iexact HS0
      ipureintro; rfl
    isplitl [HT0]; · iexact HT0
    isplitl [HT1]; · iexact HT1
    isplitl [HT2]; · iexact HT2
    isplitl [HT3]; · iexact HT3
    iexact HT4

end Cert.Kernel.Run

end
-- ==== Proof.P.Run.lean ====
/- The run of the kernel program: the proof data of its one pipeline — every input window's buffer at its block, the output
   window's buffer related to what the point found there —, the body's obligation at every point, and the launch. -/
module

public import proofs.«01_k».proof.Proof.P.Body
public import Idealize.ShloMosaic.Lib.Pipeline.FrameBody
public import Idealize.ShloMosaic.Lib.Tactic
public import Idealize.ShloMosaic.Lib.WordCmp

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The body's side condition at every point: the expert word read there is below 16. -/
abbrev Chk : Prop := ∀ t : Fin grid0.N, k0_chk1 (grid0.coords t) (totW (F := F) 0 (tbl m 4)) (expW (F := F) 0 (grid0.coords t) (tbl m 1))

/-- Point `t` is a visit: its number is below the total. -/
abbrev Live (t : Fin grid0.N) : Prop := k0_cond1 (grid0.coords t) (totW (F := F) 0 (tbl m 4)) = 1#1

/-- What a visit leaves in the output buffer, from what it found there. -/
def leave (hO : Ok m) (hK : Chk m) (c : Dev nD) (t : Fin (cfgM m hO).N) (hc : Live m t) (Y : Vec F S256x5120 .bf16) : Vec F S256x5120 .bf16 :=
  newOut (scaW (expW (F := F) 0 (grid0.coords t) (tbl m 1)) (hK t hc) (iblk m hO c 0 t)) (blkW (F := F) 0 (grid0.coords t) (tbl m 0))
    (staW (F := F) 0 (expW (F := F) 0 (grid0.coords t) (tbl m 1)) (hK t hc) (tbl m 2)) (endW (F := F) 0 (expW (F := F) 0 (grid0.coords t) (tbl m 1)) (hK t hc) (tbl m 3))
    (iblk m hO c 1 t) (iblk m hO c 2 t) (iblk m hO c 3 t) Y

/-- The relation of the output buffer's contents before (`Y`) and after (`X`) point `t`. -/
def Step (hO : Ok m) (hK : Chk m) (c : Dev nD) (t : Fin (cfgM m hO).N) (Y X : Vec F S256x5120 .bf16) : Prop :=
  (∀ hc : Live m t, X = leave m hO hK c t hc Y) ∧ (¬ Live m t → X = Y)

/-- The exact part of the proof data: the arrays as the region finds them, every input's buffer at its block. -/
def dats (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- Which window is held to a relation, and to which: the output one, to `Step`. -/
def rel (hO : Ok m) (hK : Chk m) (c : Dev nD) : (w : Fin (cfgM m hO).W) → Option (Fin (cfgM m hO).N → (Y X : ((cfgM m hO).win w).block.Idx → Elt F ((cfgM m hO).win w).elt) → Prop)
  | ⟨0, _⟩ => none
  | ⟨1, _⟩ => none
  | ⟨2, _⟩ => none
  | ⟨3, _⟩ => none
  | ⟨4, _⟩ => some (fun t Y X => Step m hO hK c t Y X)

/-- The proof data of the pipeline. -/
def rdat (hO : Ok m) (hK : Chk m) (c : Dev nD) : Pipeline.RDat τ (Elt F) Unit ℕ (UR sig nD τ) ℕ (cfgM m hO) c :=
  (dats m hO c).toR.override (rel m hO hK c)

theorem A_eq (hO : Ok m) (c : Dev nD) (w : Fin (cfgM m hO).W) : (dats m hO c).A w = V m c (Pipeline.arrRef spec0 w) := by
  dsimp only [dats]

theorem rA_eq (hO : Ok m) (hK : Chk m) (c : Dev nD) (w : Fin (cfgM m hO).W) : (rdat m hO hK c).A w = V m c (Pipeline.arrRef spec0 w) :=
  A_eq m hO c w

theorem after0_0 (hO : Ok m) (c : Dev nD) (t : Fin (cfgM m hO).N) : (dats m hO c).after 0 t = iblk m hO c 0 t := by dsimp only [dats]; try rfl
/-- What the body finds in input window 0's buffer: its block. -/
theorem finds0_0 (hO : Ok m) (hK : Chk m) (c : Dev nD) (t : Fin (cfgM m hO).N) (X) (h : (rdat m hO hK c).Finds 0 t X) : X = iblk m hO c 0 t := by
  obtain ⟨d, hd⟩ := (dats m hO c).toR_finds 0 t X (((dats m hO c).toR.override_finds (ovr := rel m hO hK c) (w := 0) rfl t X).mp h)
  exact hd.trans (before0_0_of m hO (dats m hO c) (A_eq m hO c 0) (after0_0 m hO c) t d)
/-- What it may leave there. -/
theorem rafter0_0 (hO : Ok m) (hK : Chk m) (c : Dev nD) (t : Fin (cfgM m hO).N) (Y) : (rdat m hO hK c).after 0 t Y (iblk m hO c 0 t) := by
  have h : (rdat m hO hK c).after 0 = (dats m hO c).toR.after 0 := (dats m hO c).toR.override_after_of_eq_none rfl
  rw [h]
  show (dats m hO c).Leaves 0 t _
  rw [Dat.Leaves.live_iff _ (.inl rfl)]
  exact (after0_0 m hO c t).symm
theorem after0_1 (hO : Ok m) (c : Dev nD) (t : Fin (cfgM m hO).N) : (dats m hO c).after 1 t = iblk m hO c 1 t := by dsimp only [dats]; try rfl
/-- What the body finds in input window 1's buffer: its block. -/
theorem finds0_1 (hO : Ok m) (hK : Chk m) (c : Dev nD) (t : Fin (cfgM m hO).N) (X) (h : (rdat m hO hK c).Finds 1 t X) : X = iblk m hO c 1 t := by
  obtain ⟨d, hd⟩ := (dats m hO c).toR_finds 1 t X (((dats m hO c).toR.override_finds (ovr := rel m hO hK c) (w := 1) rfl t X).mp h)
  exact hd.trans (before0_1_of m hO (dats m hO c) (A_eq m hO c 1) (after0_1 m hO c) t d)
/-- What it may leave there. -/
theorem rafter0_1 (hO : Ok m) (hK : Chk m) (c : Dev nD) (t : Fin (cfgM m hO).N) (Y) : (rdat m hO hK c).after 1 t Y (iblk m hO c 1 t) := by
  have h : (rdat m hO hK c).after 1 = (dats m hO c).toR.after 1 := (dats m hO c).toR.override_after_of_eq_none rfl
  rw [h]
  show (dats m hO c).Leaves 1 t _
  rw [Dat.Leaves.live_iff _ (.inl rfl)]
  exact (after0_1 m hO c t).symm
theorem after0_2 (hO : Ok m) (c : Dev nD) (t : Fin (cfgM m hO).N) : (dats m hO c).after 2 t = iblk m hO c 2 t := by dsimp only [dats]; try rfl
/-- What the body finds in input window 2's buffer: its block. -/
theorem finds0_2 (hO : Ok m) (hK : Chk m) (c : Dev nD) (t : Fin (cfgM m hO).N) (X) (h : (rdat m hO hK c).Finds 2 t X) : X = iblk m hO c 2 t := by
  obtain ⟨d, hd⟩ := (dats m hO c).toR_finds 2 t X (((dats m hO c).toR.override_finds (ovr := rel m hO hK c) (w := 2) rfl t X).mp h)
  exact hd.trans (before0_2_of m hO (dats m hO c) (A_eq m hO c 2) (after0_2 m hO c) t d)
/-- What it may leave there. -/
theorem rafter0_2 (hO : Ok m) (hK : Chk m) (c : Dev nD) (t : Fin (cfgM m hO).N) (Y) : (rdat m hO hK c).after 2 t Y (iblk m hO c 2 t) := by
  have h : (rdat m hO hK c).after 2 = (dats m hO c).toR.after 2 := (dats m hO c).toR.override_after_of_eq_none rfl
  rw [h]
  show (dats m hO c).Leaves 2 t _
  rw [Dat.Leaves.live_iff _ (.inl rfl)]
  exact (after0_2 m hO c t).symm
theorem after0_3 (hO : Ok m) (c : Dev nD) (t : Fin (cfgM m hO).N) : (dats m hO c).after 3 t = iblk m hO c 3 t := by dsimp only [dats]; try rfl
/-- What the body finds in input window 3's buffer: its block. -/
theorem finds0_3 (hO : Ok m) (hK : Chk m) (c : Dev nD) (t : Fin (cfgM m hO).N) (X) (h : (rdat m hO hK c).Finds 3 t X) : X = iblk m hO c 3 t := by
  obtain ⟨d, hd⟩ := (dats m hO c).toR_finds 3 t X (((dats m hO c).toR.override_finds (ovr := rel m hO hK c) (w := 3) rfl t X).mp h)
  exact hd.trans (before0_3_of m hO (dats m hO c) (A_eq m hO c 3) (after0_3 m hO c) t d)
/-- What it may leave there. -/
theorem rafter0_3 (hO : Ok m) (hK : Chk m) (c : Dev nD) (t : Fin (cfgM m hO).N) (Y) : (rdat m hO hK c).after 3 t Y (iblk m hO c 3 t) := by
  have h : (rdat m hO hK c).after 3 = (dats m hO c).toR.after 3 := (dats m hO c).toR.override_after_of_eq_none rfl
  rw [h]
  show (dats m hO c).Leaves 3 t _
  rw [Dat.Leaves.live_iff _ (.inl rfl)]
  exact (after0_3 m hO c t).symm

/-- What the body may leave in the output window's buffer. -/
theorem rafter0_4 (hO : Ok m) (hK : Chk m) (c : Dev nD) : (rdat m hO hK c).after 4 = fun t Y X => Step m hO hK c t Y X :=
  (dats m hO c).toR.override_after_of_eq_some rfl

/-! ## The body obligation -/

/-- What the body is called with at point `t`, its output buffer at `Y`, -/
def bodyPre (hO : Ok m) (c : Dev nD) (t : Fin (cfgM m hO).N) (Y : Vec F S256x5120 .bf16) : sProp 𝕄 :=
  iprop((dats m hO c).Φ t.castSucc ∗ (dats m hO c).owesAt () t.castSucc
    ∗ owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare Y)

/-- and what it returns. -/
def bodyPost (hO : Ok m) (hK : Chk m) (c : Dev nD) (t : Fin (cfgM m hO).N) (Y : Vec F S256x5120 .bf16) : sProp 𝕄 :=
  iprop((dats m hO c).Φ t.succ ∗ (dats m hO c).owesAt () t.succ
    ∗ owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ (∃ X, ⌜Step m hO hK c t Y X⌝ ∗ owns (c : Thread nD τ) (ms0_4 m hO t) fullShare X))

/-- The body at any point: the two runs, chosen by the visit number. -/
theorem sound_body (hO : Ok m) (hK : Chk m) (c : Dev nD) (t : Fin (cfgM m hO).N) (Y : Vec F S256x5120 .bf16) :
    bodyPre m hO c t Y ⊢ wp frame (wpE (defs₀ (F := F)) Variants.none c none) Set.univ (bodyAt0 m hO t) (fun _ => bodyPost m hO hK c t Y) := by
  obtain rfl : c = 0 := Subsingleton.elim _ _
  unfold bodyPre bodyPost bodyAt0
  rw [show (dats m hO 0).Φ t.succ = (dats m hO 0).Φ t.castSucc from rfl,
    show (dats m hO 0).owesAt () t.succ = (dats m hO 0).owesAt () t.castSucc from rfl]
  rw [show (dats m hO 0).Φ t.castSucc = iprop(Pipeline.ΦA spec0 0 ∗ Pipeline.ΦT pre0 (tbl m) 0) from rfl, PhiT0_eq, PhiA0_eq]
  iintro ⟨⟨⟨HS0, Hg⟩, ⟨HT0, HT1, HT2, HT3, HT4⟩⟩, Ho, H0, H1, H2, H3, H4⟩
  by_cases hc : Live m t
  · iapply (run_active 0 (grid0.coords t) _ _ _ _ _ _ _ _ _ _ _ _ (iblk m hO 0 0 t) (iblk m hO 0 1 t) (iblk m hO 0 2 t) (iblk m hO 0 3 t) Y (tbl m 0) (tbl m 1) (tbl m 2) (tbl m 3) (tbl m 4) hc (hK t) Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    isplitl [HT2]; · iexact HT2
    isplitl [HT3]; · iexact HT3
    isplitl [HT4]; · iexact HT4
    iintro ⟨H0, H1, H2, H3, H4, HS0, HT0, HT1, HT2, HT3, HT4⟩
    isplitl [HS0 Hg HT0 HT1 HT2 HT3 HT4]
    · isplitl [HS0 Hg]
      · isplitl [HS0]
        · iexact HS0
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    isplitl [H3]; · iexact H3
    iexists _; isplitr; swap; · iexact H4
    ipureintro
    exact ⟨fun _ => rfl, fun h => absurd hc h⟩
  · iapply (run_idle 0 (grid0.coords t) _ _ _ _ _ _ _ _ _ _ _ _ (iblk m hO 0 0 t) (iblk m hO 0 1 t) (iblk m hO 0 2 t) (iblk m hO 0 3 t) Y (tbl m 0) (tbl m 1) (tbl m 2) (tbl m 3) (tbl m 4) hc Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    isplitl [HT2]; · iexact HT2
    isplitl [HT3]; · iexact HT3
    isplitl [HT4]; · iexact HT4
    iintro ⟨H0, H1, H2, H3, H4, HS0, HT0, HT1, HT2, HT3, HT4⟩
    isplitl [HS0 Hg HT0 HT1 HT2 HT3 HT4]
    · isplitl [HS0 Hg]
      · isplitl [HS0]
        · iexact HS0
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    isplitl [H3]; · iexact H3
    iexists _; isplitr; swap; · iexact H4
    ipureintro
    exact ⟨fun h => absurd h hc, fun _ => rfl⟩

/-- The pipeline's body obligation. -/
theorem body_obligation (hO : Ok m) (hK : Chk m) (c : Dev nD) :
    (rdat m hO hK c).BodyObligation (defs₀ (F := F)) Variants.none () Set.univ := fun t Y hY => by
  have e0 : Y 0 = iblk m hO c 0 t := finds0_0 m hO hK c t (Y 0) (hY 0)
  have e1 : Y 1 = iblk m hO c 1 t := finds0_1 m hO hK c t (Y 1) (hY 1)
  have e2 : Y 2 = iblk m hO c 2 t := finds0_2 m hO hK c t (Y 2) (hY 2)
  have e3 : Y 3 = iblk m hO c 3 t := finds0_3 m hO hK c t (Y 3) (hY 3)
  rw [bigSep_W0, bigSep_W0, defs₀_row m hO, e0, e1, e2, e3, rafter0_4]
  refine triple_restated (sound_body m hO hK c t (Y 4)) rfl .rfl fun _ => ?_
  unfold bodyPost
  rw [show (rdat m hO hK c).Φ t.succ = (dats m hO c).Φ t.succ from rfl,
    show (rdat m hO hK c).owesAt () t.succ = (dats m hO c).owesAt () t.succ from rfl]
  iintro ⟨HP, Ho, H0, H1, H2, H3, H4⟩
  isplitl [HP]; · iexact HP
  isplitl [Ho]; · iexact Ho
  isplitl [H0]
  · iexists _; isplitr; swap; · iexact H0
    ipureintro; exact rafter0_0 m hO hK c t _
  isplitl [H1]
  · iexists _; isplitr; swap; · iexact H1
    ipureintro; exact rafter0_1 m hO hK c t _
  isplitl [H2]
  · iexists _; isplitr; swap; · iexact H2
    ipureintro; exact rafter0_2 m hO hK c t _
  isplitl [H3]
  · iexists _; isplitr; swap; · iexact H3
    ipureintro; exact rafter0_3 m hO hK c t _
  iexact H4

/-! ## The launch -/

theorem rshare (hO : Ok m) (hK : Chk m) (c : Dev nD) (w : Fin (cfgM m hO).W) : (rdat m hO hK c).share w = fullShare :=
  (dats m hO c).share_full (fun _ => rfl) w

theorem rowed (hO : Ok m) (hK : Chk m) (c : Dev nD) (t) : (rdat m hO hK c).owed t = 0 := rfl

theorem rΦ (hO : Ok m) (hK : Chk m) (c : Dev nD) (t) : (rdat m hO hK c).Φ t = iprop(Pipeline.ΦA spec0 c ∗ Pipeline.ΦT pre0 (tbl m) c) := rfl

set_option maxHeartbeats 1600000 in
set_option backward.isDefEq.respectTransparency.types false in
/-- Every weakly fair execution of @main terminates, every final state has the arrays as the proof data say, every other
    unscoped buffer as the region found it, and every semaphore counter at zero. -/
theorem run_main (hO : Ok m) (hK : Chk m) : θ_run defs (onTc (τ := τ) (main (F := F))) (s₀ m ρ)
    (fun r => (Pipeline.RDat.FramePost ((Pipeline.pin pcfgs fun _ => adm m hO) 0) (rdat m hO hK) (V m)) r ∧ r.2.sem = fun _ => 0) :=
  Pipeline.RDat.θ_run_frameP (Q' := _) pcfgs (fun _ => adm m hO) (0 : Fin 1) launch0 defs₀ Variants.none (rdat m hO hK) m ρ main
    (hbody := body_obligation m hO hK) (hshare := rshare m hO hK)
    (howed := rowed m hO hK) (V := V m) (hmain := hmain m Variants.none) (hA := rA_eq m hO hK) (hpf := V_pre m) (hΦ := rΦ m hO hK)

/-- The arguments are unchanged at the end of such an execution. -/
theorem args_of (hO : Ok m) (hK : Chk m) {r : PUnit × MemSt nD τ sig (Elt F)}
    (h : Pipeline.RDat.FramePost ((Pipeline.pin pcfgs fun _ => adm m hO) 0) (rdat m hO hK) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 1 rfl).trans ((rA_eq m hO hK c 1).trans (V_main_arg0 m c)),
    ((h c).2 main_arg1 (by decide : main_arg1 ∈ Pipeline.restRefs sig spec0)).trans (V_main_arg1 m c),
    (Pipeline.RDat.FramePost.arr_in h c 0 rfl).trans ((rA_eq m hO hK c 0).trans (V_main_arg2 m c)),
    (Pipeline.RDat.FramePost.arr_in h c 2 rfl).trans ((rA_eq m hO hK c 2).trans (V_main_arg3 m c)),
    ((h c).2 main_arg4 (by decide : main_arg4 ∈ Pipeline.restRefs sig spec0)).trans (V_main_arg4 m c)⟩

/-- The frame: the arguments are unchanged and every counter is zero. -/
theorem frame_run (hO : Ok m) (hK : Chk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m hO hK h.1, h.2⟩) (run_main m ρ hO hK)

/-- The run with its result: the arguments unchanged, the output array at contents the proof data allow. -/
theorem value_run (hO : Ok m) (hK : Chk m) : θ_run defs (onTc (τ := τ) (main (F := F))) ⟨m, fun _ => 0, ρ⟩ (fun r => ∀ c : Dev nD,
      (rdat m hO hK c).ArrAt 4 (cfgM m hO).N (r.2.mem ((c.tc : Thread nD τ).loc main_v45))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 4, args_of m hO hK h.1 c⟩) (run_main m ρ hO hK)

end Cert.Kernel.Run

end
-- ==== Proof.P.Ok.lean ====
/- The kernel's tables at the numbers of the schedule: what the body and the index maps read from them, that every block they
   name lies in its array, and that the body's own check of the expert passes. -/
module

public import proofs.«01_k».proof.Proof.P.Words
public import proofs.«01_k».proof.Proof.P.Run
public import Idealize.ShloMosaic.Lib.PairWhole

@[expose] public section

set_option maxRecDepth 16384

noncomputable section

namespace Cert.Kernel.Run

open Cert.Kernel.Gen Cert.Sched
open Idealize.ShloMosaic Idealize.ShloMosaic.TcCoe Idealize.ShloMosaic.Routing Idealize.ShloMosaic.WordCmp

variable {F : FTy → Type} [FloatOps F]
variable (m : (ℓ : Loc nD τ sig) → Buf (Elt F) ℓ)

/-- The one coordinate of a grid point is its number. -/
theorem coords_val (t : Fin grid0.N) : (grid0.coords t 0).val = t.val := by
  have h := Pipeline.Grid.coords_val t 0 (S := 1) (B := 144) rfl rfl
  have ht : t.val < 144 := t.isLt
  rw [h]; omega

/-- The grid has 144 points. -/
theorem point_lt (t : Fin grid0.N) : t.val < 144 := t.isLt

/-- The one element of a one-element rectangle of a vector. -/
theorem emb1 {n : ℕ} (off : Fin 1 → ℕ) (h : ∀ a, off a + S1.size a ≤ (shape1 n).size a) (hp : 0 < (Rect.unit (s := shape1 n) off S1.size h).shape.numel) (k : Fin n)
    (hk : off 0 = k.val) : (Rect.unit (s := shape1 n) off S1.size h).emb (Shape.Idx.first hp) = ValueIdx.ix1 k := by
  funext a
  refine Fin.ext ?_
  match a with
  | ⟨0, _⟩ =>
    have h0 : ((Shape.Idx.first hp : (Rect.unit (s := shape1 n) off S1.size h).shape.Idx) 0).val = 0 :=
      Nat.lt_one_iff.1 ((Shape.Idx.first hp : (Rect.unit (s := shape1 n) off S1.size h).shape.Idx) 0).isLt
    show off 0 + 1 * ((Shape.Idx.first hp : (Rect.unit (s := shape1 n) off S1.size h).shape.Idx) 0).val = k.val
    rw [h0, hk]; omega

/-- A small number as a word and back. -/
theorem ofNat_toNat {k : ℕ} (h : k < 2 ^ 31) : (BitVec.ofNat 32 k).toNat = k := toNat_ofNat_of_lt (by omega)

/-- The body's condition compares the point with the number of visits. -/
theorem cond1_iff (i : grid0.Coords) (v : BitVec 32) : k0_cond1 i v = 1#1 ↔ IntOp.cmpi .slt (BitVec.ofNat 32 (i 0).val) v = 1#1 := by
  show IntOp.cmpi .ne ((IntOp.cmpi .slt (BitVec.ofNat 32 (i 0).val) v).setWidth 32) 0#32 = 1#1 ↔ _
  generalize IntOp.cmpi .slt (BitVec.ofNat 32 (i 0).val) v = b
  revert b
  decide

variable {m} {g : ℕ → ℕ} (hg : Groups m g)
include hg

/-- The body reads the number of visits. -/
theorem wTot : totW 0 (tbl m 4) = BitVec.ofNat 32 (tot g) := by
  refine Eq.trans ?_ (w_v43 hg)
  exact congrArg (V m (0 : Dev nD) main_v43 : IVec S1 32) (emb1 (n := 1) _ _ _ 0 rfl)

/-- The body reads a point's expert. -/
theorem wExp (i : grid0.Coords) : expW 0 i (tbl m 1) = BitVec.ofNat 32 (ex g (i 0).val) := by
  refine Eq.trans ?_ (w_v25 hg (i 0))
  exact congrArg (V m (0 : Dev nD) main_v25 : IVec S144 32) (emb1 (n := 144) _ _ _ (i 0) (ofNat_toNat (by have : (i 0).val < 144 := (i 0).isLt; omega)))

/-- The body reads a point's block. -/
theorem wBlk (i : grid0.Coords) : blkW 0 i (tbl m 0) = BitVec.ofNat 32 (Sched.blk g (i 0).val) := by
  refine Eq.trans ?_ (w_v42 hg (i 0))
  exact congrArg (V m (0 : Dev nD) main_v42 : IVec S144 32) (emb1 (n := 144) _ _ _ (i 0) (ofNat_toNat (by have : (i 0).val < 144 := (i 0).isLt; omega)))

/-- The body reads an expert's first row. -/
theorem wSta (e : BitVec 32) (h) (k : Fin 16) (hk : e = BitVec.ofNat 32 k.val) : staW 0 e h (tbl m 2) = BitVec.ofNat 32 (pre g k.val) := by
  refine Eq.trans ?_ (w_v1 hg k)
  exact congrArg (V m (0 : Dev nD) main_v1 : IVec S16 32) (emb1 (n := 16) _ _ _ k (by subst hk; exact ofNat_toNat (by omega)))

/-- The body reads the row past an expert's last. -/
theorem wEnd (e : BitVec 32) (h) (k : Fin 16) (hk : e = BitVec.ofNat 32 k.val) : endW 0 e h (tbl m 3) = BitVec.ofNat 32 (pre g (k.val + 1)) := by
  refine Eq.trans ?_ (w_v0 hg k)
  exact congrArg (V m (0 : Dev nD) main_v0 : IVec S16 32) (emb1 (n := 16) _ _ _ k (by subst hk; exact ofNat_toNat (by omega)))

/-- A point's block as the index maps read it. -/
theorem at_blk (i : grid0.Coords) : ((tbl m).at 0 (Rect.unit (s := S144) (k0_off1 i) S1.size (Facts₀.k0_off1_inb i)) Facts₀.numel1_S1 : BitVec 32).toNat = Sched.blk g (i 0).val :=
  (congrArg BitVec.toNat (wBlk hg i)).trans (ofNat_toNat (by have := blk_lt g hg.sum (i 0).val; omega))

/-- A point's expert as the index maps read it. -/
theorem at_ex (i : grid0.Coords) : ((tbl m).at 1 (Rect.unit (s := S144) (k0_off1 i) S1.size (Facts₀.k0_off1_inb i)) Facts₀.numel1_S1 : BitVec 32).toNat = ex g (i 0).val :=
  (congrArg BitVec.toNat (wExp hg i)).trans (ofNat_toNat (by have := (ex_spec g hg.sum (i 0).val).1; omega))

/-- The rows' window is at the point's block. -/
theorem tr1 (i : grid0.Coords) : cc0_transform_1 Facts₀.k0_off1_inb Facts₀.numel1_S1 (tbl m) i = ![Sched.blk g (i 0).val, 0] := by
  rw [← at_blk hg i]; rfl

/-- The weights' window is at the point's expert. -/
theorem tr2 (i : grid0.Coords) : cc0_transform_2 Facts₀.k0_off1_inb Facts₀.numel1_S1 (tbl m) i = ![ex g (i 0).val, 0, 0] := by
  rw [← at_ex hg i]; rfl

/-- The weight scales' window is at the point's expert. -/
theorem tr3 (i : grid0.Coords) : cc0_transform_3 Facts₀.k0_off1_inb Facts₀.numel1_S1 (tbl m) i = ![ex g (i 0).val, 0, 0] := by
  rw [← at_ex hg i]; rfl

/-- The output's window is at the point's block. -/
theorem tr4 (i : grid0.Coords) : cc0_transform_4 Facts₀.k0_off1_inb Facts₀.numel1_S1 (tbl m) i = ![Sched.blk g (i 0).val, 0] := by
  rw [← at_blk hg i]; rfl

/-- Every block lies in its array and ends at whole words. -/
theorem ok : Ok m := by
  have hb : ∀ i : grid0.Coords, Sched.blk g (i 0).val < 128 := fun i => blk_lt g hg.sum _
  have he : ∀ i : grid0.Coords, ex g (i 0).val < 16 := fun i => (ex_spec g hg.sum _).1
  refine ⟨fun i => ⟨fun a => ?_, .inr ?_⟩, fun i => ⟨fun a => ?_, .inr ?_⟩, fun i => ⟨fun a => ?_, .inl rfl⟩, fun i => ⟨fun a => ?_, .inr ?_⟩⟩
  · have := hb i
    rw [tr1 hg i]
    fin_cases a
    · show (Sched.blk g (i 0).val + 1) * 256 ≤ 32768; omega
    · show (0 + 1) * 4096 ≤ 4096; omega
  · refine (Rect.packedRows_of_rowAxis _ _ (le_refl 2) ?_ ?_ rfl).wholeWords
    · show 2 ∣ cc0_transform_1 Facts₀.k0_off1_inb Facts₀.numel1_S1 (tbl m) i 0 * 256
      exact Dvd.dvd.mul_left (by decide) _
    · show 2 ∣ 256
      decide
  · have := he i
    rw [tr2 hg i]
    fin_cases a
    · show (ex g (i 0).val + 1) * 1 ≤ 16; omega
    · show (0 + 1) * 5120 ≤ 5120; omega
    · show (0 + 1) * 4096 ≤ 4096; omega
  · refine (Rect.packedRows_of_rowAxis _ _ (by decide : 2 ≤ 3) ?_ ?_ rfl).wholeWords
    · show 4 ∣ cc0_transform_2 Facts₀.k0_off1_inb Facts₀.numel1_S1 (tbl m) i 1 * 5120
      exact Dvd.dvd.mul_left (by decide) _
    · show 4 ∣ 5120
      decide
  · have := he i
    rw [tr3 hg i]
    fin_cases a
    · show (ex g (i 0).val + 1) * 1 ≤ 16; omega
    · show (0 + 1) * 1 ≤ 1; omega
    · show (0 + 1) * 5120 ≤ 5120; omega
  · have := hb i
    rw [tr4 hg i]
    fin_cases a
    · show (Sched.blk g (i 0).val + 1) * 256 ≤ 32768; omega
    · show (0 + 1) * 5120 ≤ 5120; omega
  · refine (Rect.packedRows_of_rowAxis _ _ (le_refl 2) ?_ ?_ rfl).wholeWords
    · show 2 ∣ cc0_transform_4 Facts₀.k0_off1_inb Facts₀.numel1_S1 (tbl m) i 0 * 256
      exact Dvd.dvd.mul_left (by decide) _
    · show 2 ∣ 256
      decide

/-- The expert the body reads is one of the sixteen. -/
theorem chk : Chk m := by
  intro t _ a
  have he := (ex_spec g hg.sum (grid0.coords t 0).val).1
  rw [wExp hg]
  fin_cases a
  show (BitVec.ofNat 32 (ex g (grid0.coords t 0).val)).toNat + 1 ≤ 16
  rw [ofNat_toNat (by omega)]; omega

/-- The body computes at the visits alone. -/
theorem live_iff (t : Fin grid0.N) : Live m t ↔ t.val < tot g := by
  have h1 := tot_le g hg.sum
  have ht := point_lt t
  have e : Live m t ↔ k0_cond1 (grid0.coords t) (BitVec.ofNat 32 (tot g)) = 1#1 :=
    iff_of_eq (congrArg (fun v => k0_cond1 (grid0.coords t) v = 1#1) (wTot hg))
  rw [e, cond1_iff, coords_val]
  exact cmpi_slt_ofNat_eq_one_iff (w := 32) (by omega) (by omega)

end Cert.Kernel.Run
-- ==== Proof.PI.Kit.lean ====
/- What the run of the kernel program shares: the buffers when its region is entered, the five prefetched tables,
   the blocks of its windows, and its body as the pipeline calls it. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, all stretches in order. -/
abbrev hostLine : List (HloOp τ sig (Elt F)) := List.flatten [hostOps0, hostOps0_1, hostOps0_2, hostOps0_3, hostOps0_4, hostOps0_5, hostOps0_6, hostOps0_7, hostOps0_8]

/-- Core `c`'s buffers when the region is entered: after the host operations. -/
abbrev V (c : Dev nD) (b : Ref sig .tc) : Buf (Elt F) ((c : Thread nD τ).loc b) :=
  StableHlo.after (hostLine (F := F)) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 1600000 in
/-- @main up to the region: the lines of host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The tables' contents when the region is entered (the program runs on one device). -/
def tbl : pre0.Contents (Elt F) := fun j => V m (0 : Dev nD) (pre0.ref j)
/-- On every device the tables hold those contents. -/
theorem V_pre (c : Dev nD) (j : Fin 5) : V m c (pre0.ref j) = tbl m j := by
  obtain rfl : c = 0 := Subsingleton.elim _ _; rfl
/-- The tables keep every block inside its array. -/
abbrev Ok : Prop := ok0 (F := F) (tbl m)
/-- The tables as admissible contents, and the pipeline at them. -/
abbrev adm (hO : Ok m) : (pcfg0 (F := F)).Adm := ⟨tbl m, hO⟩
abbrev cfgM (hO : Ok m) : Pipeline.Cfg sig Λ₀ := cfg0 (adm m hO)

abbrev tbM0_0 : Memref sig .tc .smem S144 .i32 := Memref.whole main_v42
abbrev htbM0_0 : tbM0_0.IsWhole := Memref.isWhole_whole _
abbrev tbM0_1 : Memref sig .tc .smem S144 .i32 := Memref.whole main_v25
abbrev htbM0_1 : tbM0_1.IsWhole := Memref.isWhole_whole _
abbrev tbM0_2 : Memref sig .tc .smem S16 .i32 := Memref.whole main_v1
abbrev htbM0_2 : tbM0_2.IsWhole := Memref.isWhole_whole _
abbrev tbM0_3 : Memref sig .tc .smem S16 .i32 := Memref.whole main_v0
abbrev htbM0_3 : tbM0_3.IsWhole := Memref.isWhole_whole _
abbrev tbM0_4 : Memref sig .tc .smem S1 .i32 := Memref.whole main_v43
abbrev htbM0_4 : tbM0_4.IsWhole := Memref.isWhole_whole _

/-- A table memref's buffer on core `c`: its contents type, and the half of it the body is handed. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body as the pipeline calls it -/

abbrev ms0_0 (hO : Ok m) (t : Fin (cfgM m hO).N) : Memref sig .tc .smem S16 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x4096 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x5120x4096 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x5120 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x5120 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operand: a whole buffer of the kernel's own. -/
abbrev scM0_0 : Memref sig .tc .vmem S256x4096 .fp8e4m3 := Memref.whole cc0_scratch0

/-- The invariant's scratch part with the scratch operand as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The kernel body at point `t`, on what the pipeline calls it with. -/
abbrev bodyAt0 (hO : Ok m) (t : Fin (cfgM m hO).N) : Prog (TpuEff nD τ sig (Elt F) Λ₀ .tc) PUnit :=
  cc0_grouped_fp8_proj (grid0.coords t) tbM0_0 htbM0_0 tbM0_1 htbM0_1 tbM0_2 htbM0_2 tbM0_3 htbM0_3 tbM0_4 htbM0_4 (ms0_0 m hO t) (hs0_0 m hO t) (ms0_1 m hO t) (hs0_1 m hO t) (ms0_2 m hO t) (hs0_2 m hO t) (ms0_3 m hO t) (hs0_3 m hO t) (ms0_4 m hO t) (hs0_4 m hO t) (Memref.whole cc0_scratch0) (Memref.isWhole_whole _)

/-- The body table's row at point `t`'s slots is that body. -/
theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

end Cert.KernelIdeal.Run

end
-- ==== Proof.PI.Reads.lean ====
/- What the host operations of the kernel program leave in the buffers that the tables are read from, each as one line
   over the buffers before it. -/
module

public import proofs.«01_k».proof.Proof.PI.Kit
public import proofs.«01_k».proof.Proof.Sched
public import Idealize.ShloMosaic.Lib.Routing.OpsSearch
public import Idealize.ShloMosaic.Lib.StableHlo.ReadAt
@[expose] public section
set_option maxRecDepth 16384
noncomputable section
namespace Cert.KernelIdeal.Run
open Cert.KernelIdeal.Gen
open Idealize.ShloMosaic Idealize.ShloMosaic.TcCoe Idealize.ShloMosaic.Tactic
variable {F : FTy → Type} [FloatOps F]
variable (m : (ℓ : Loc nD τ sig) → Buf (Elt F) ℓ)

/-- The group ends: the running sums of the group sizes. -/
theorem V_v0 (c : Dev nD) : V m c main_v0 = Host.reduceWindow IntOp.addi ![16] ![1] ![15] ![0] (V m c main_arg1 : IVec S16 32)
    (broadcastInDim S_ ![] bcast_S_S_ (constantI S_ 32 0#32)) reduceWindows_S16_S16_w16s1p15_0 h_S_ := by
  unfold V
  after_reads_simp
  simp -implicitDefEqProofs only [StableHlo.TRef.toBuf, StableHlo.TRef.ofBuf, cast_cast, cast_eq, id]

/-- The group starts: the ends less the sizes. -/
theorem V_v1 (c : Dev nD) : V m c main_v1 = subi (V m c main_v0 : IVec S16 32) (V m c main_arg1 : IVec S16 32) := by
  unfold V
  after_reads_simp

/-- The first block of each group. -/
theorem V_v2 (c : Dev nD) : V m c main_v2 = Routing.pyDiv (s := S16) bcast_S_S16 (V m c main_v1 : IVec S16 32) (constantI S_ 32 256#32) := by
  unfold V Routing.pyDiv
  after_reads_simp
  simp -implicitDefEqProofs only [StableHlo.TRef.toBuf, StableHlo.TRef.ofBuf, cast_cast, cast_eq, id]

/-- One past the last block of each group. -/
theorem V_v7 (c : Dev nD) : V m c main_v7 = Routing.pyDiv (s := S16) bcast_S_S16 (subi (addi (V m c main_v0 : IVec S16 32) (broadcastInDim S16 ![] bcast_S_S16 (constantI S_ 32 256#32))) (broadcastInDim S16 ![] bcast_S_S16 (constantI S_ 32 1#32))) (constantI S_ 32 256#32) := by
  unfold V Routing.pyDiv
  after_reads_simp
  simp -implicitDefEqProofs only [StableHlo.TRef.toBuf, StableHlo.TRef.ofBuf, cast_cast, cast_eq, id]

/-- The number of visits of each group, none for an empty group. -/
theorem V_v11 (c : Dev nD) : V m c main_v11 = select (cmpi .sgt (V m c main_arg1 : IVec S16 32) (broadcastInDim S16 ![] bcast_S_S16 (constantI S_ 32 0#32)))
    (subi (V m c main_v7 : IVec S16 32) (V m c main_v2 : IVec S16 32)) (broadcastInDim S16 ![] bcast_S_S16 (constantI S_ 32 0#32)) := by
  unfold V
  after_reads_simp
  simp -implicitDefEqProofs only [StableHlo.TRef.toBuf, StableHlo.TRef.ofBuf, cast_cast, cast_eq, id]

/-- The running sums of the visits. -/
theorem V_v12 (c : Dev nD) : V m c main_v12 = Host.reduceWindow IntOp.addi ![16] ![1] ![15] ![0] (V m c main_v11 : IVec S16 32)
    (broadcastInDim S_ ![] bcast_S_S_ (constantI S_ 32 0#32)) reduceWindows_S16_S16_w16s1p15_0 h_S_ := by
  unfold V
  after_reads_simp
  simp -implicitDefEqProofs only [StableHlo.TRef.toBuf, StableHlo.TRef.ofBuf, cast_cast, cast_eq, id]

/-- The number of all visits. -/
theorem V_v43 (c : Dev nD) : V m c main_v43 = extractStridedSlice S1 ![15] (V m c main_v12 : IVec S16 32) slices_S16_S1_15 := by
  unfold V
  after_reads_simp

/-- The visit of each grid point, the last one repeated. -/
theorem V_v18 (c : Dev nD) : V m c main_v18 = minsi (iotaInDim S144 32 0)
    (broadcastInDim S144 ![] bcast_S_S144 (subi (shapeCast S_ (V m c main_v43 : IVec S1 32) shapeCasts_S1_S_) (constantI S_ 32 1#32))) := by
  unfold V
  after_reads_simp
  simp -implicitDefEqProofs only [StableHlo.TRef.toBuf, StableHlo.TRef.ofBuf, cast_cast, cast_eq, id]
  rfl

/-- The expert of each grid point: the number of running sums it has reached. -/
theorem V_v25 (c : Dev nD) : V m c main_v25 = Host.reduce IntOp.addi (extui 32 (cmpi .sge
      (broadcastInDim S144x16 ![0, 1] bcast_S144x1_S144x16_0_1 (broadcastInDim S144x1 ![0] bcast_S144_S144x1_0 (V m c main_v18 : IVec S144 32)))
      (broadcastInDim S144x16 ![0, 1] bcast_S1x16_S144x16_0_1 (broadcastInDim S1x16 ![1] bcast_S16_S1x16_1 (V m c main_v12 : IVec S16 32)))) natLt_1_32)
    (constantI S_ 32 0#32) reducesTo_S144x16_S144_d1 h_S_ := by
  unfold V
  after_reads_simp

/-- The experts' words as jnp wraps them before a take. -/
abbrev wrapped (x : IVec S144 32) : IVec S144x1 32 := broadcastInDim S144x1 ![0] bcast_S144_S144x1_0
  (select (cmpi .slt x (broadcastInDim S144 ![] bcast_S_S144 (constantI S_ 32 0#32))) (addi x (broadcastInDim S144 ![] bcast_S_S144 (constantI S_ 32 16#32))) x)

/-- The block of each grid point. -/
theorem V_v42 (c : Dev nD) : V m c main_v42 = subi
    (addi (Host.gather gather_S16_S144x1_S144_n_0_n_n_0_1_1 (V m c main_v2 : IVec S16 32) (wrapped (V m c main_v25 : IVec S144 32))) (V m c main_v18 : IVec S144 32))
    (Host.gather gather_S16_S144x1_S144_n_0_n_n_0_1_1 (subi (V m c main_v12 : IVec S16 32) (V m c main_v11 : IVec S16 32)) (wrapped (V m c main_v25 : IVec S144 32))) := by
  unfold V wrapped
  after_reads_simp

/-- The weight scales with one more axis of extent one. -/
theorem V_v44 (c : Dev nD) : V m c main_v44 = shapeCast S16x1x5120 (V m c main_arg4 : FVec F S16x5120 .f32) shapeCasts_S16x5120_S16x1x5120 := by
  unfold V
  after_reads_simp
  rfl

end Cert.KernelIdeal.Run
-- ==== Proof.PI.Words.lean ====
/- The schedule's tables as numbers: each table the kernel prefetches holds, at each place, the word of the number that the
   schedule over the naturals gives there. -/
module

public import proofs.«01_k».proof.Proof.PI.Reads
public import Idealize.ShloMosaic.Lib.PlanTiles.Rows

@[expose] public section

set_option maxRecDepth 16384

noncomputable section

namespace Cert.KernelIdeal.Run

open Cert.KernelIdeal.Gen Cert.Sched
open Idealize.ShloMosaic Idealize.ShloMosaic.TcCoe Idealize.ShloMosaic.ValueIdx Idealize.ShloMosaic.Routing Idealize.ShloMosaic.WordCmp

variable {F : FTy → Type} [FloatOps F]
variable (m : (ℓ : Loc nD τ sig) → Buf (Elt F) ℓ)

/-- The two takes at the experts and the sum and difference around them, at one grid point whose expert is `e`. -/
theorem taken (a b d : IVec S16 32) (v w : IVec S144 32) (t : Fin 144) (e : Fin 16) (hw : wrapped w (ValueIdx.ix2 t (0 : Fin 1)) = BitVec.ofNat 32 e.val) :
    subi (addi (Host.gather gather_S16_S144x1_S144_n_0_n_n_0_1_1 a (wrapped w)) v) (Host.gather gather_S16_S144x1_S144_n_0_n_n_0_1_1 (subi b d) (wrapped w)) (ValueIdx.ix1 t)
      = a (ValueIdx.ix1 e) + v (ValueIdx.ix1 t) - (b (ValueIdx.ix1 e) - d (ValueIdx.ix1 e)) := by
  rw [subi_ap, addi_ap, gather_take1 gather_S16_S144x1_S144_n_0_n_n_0_1_1 rfl rfl rfl rfl _ _ t e hw (by decide),
    gather_take1 gather_S16_S144x1_S144_n_0_n_n_0_1_1 rfl rfl rfl rfl _ _ t e hw (by decide), subi_ap]

/-- The group sizes in memory are the naturals `g`, and they partition the 32768 rows. -/
structure Groups (g : ℕ → ℕ) : Prop where
  arg : ∀ i : Fin 16, (V m (0 : Dev nD) main_arg1 : IVec S16 32) (ValueIdx.ix1 i) = BitVec.ofNat 32 (g i.val)
  sum : pre g 16 = 32768

variable {m} {g : ℕ → ℕ} (hg : Groups m g)
include hg

/-- Every group lies in the rows. -/
theorem Groups.le {i : ℕ} (hi : i ≤ 16) : pre g i ≤ 32768 := by
  rw [← hg.sum]; exact pre_mono g hi

/-- The visits are at most 144. -/
theorem Groups.q_le {i : ℕ} (hi : i ≤ 16) : pre (nb g) i ≤ 144 :=
  (pre_mono (nb g) hi).trans (tot_le g hg.sum)

/-- The end of each group. -/
theorem w_v0 (i : Fin 16) : (V m (0 : Dev nD) main_v0 : IVec S16 32) (ValueIdx.ix1 i) = BitVec.ofNat 32 (pre g (i.val + 1)) := by
  rw [V_v0]
  exact cumsum1 (Nm1 := 15) rfl _ g hg.arg _ rfl _ _ i

/-- The start of each group. -/
theorem w_v1 (i : Fin 16) : (V m (0 : Dev nD) main_v1 : IVec S16 32) (ValueIdx.ix1 i) = BitVec.ofNat 32 (pre g i.val) := by
  rw [V_v1, subi_ap, w_v0 hg, hg.arg, ofNat32_sub (by rw [pre_succ]; omega), pre_succ]
  congr 1; omega

/-- The first block of each group. -/
theorem w_v2 (i : Fin 16) : (V m (0 : Dev nD) main_v2 : IVec S16 32) (ValueIdx.ix1 i) = BitVec.ofNat 32 (pre g i.val / 256) := by
  have := hg.le (show i.val ≤ 16 by omega)
  rw [V_v2]
  exact pyDiv_ap _ _ _ _ (w_v1 hg i) rfl (by omega) (by omega) (by omega)

/-- One past the last block of each group. -/
theorem w_v7 (i : Fin 16) : (V m (0 : Dev nD) main_v7 : IVec S16 32) (ValueIdx.ix1 i) = BitVec.ofNat 32 ((pre g (i.val + 1) + 255) / 256) := by
  have := hg.le (show i.val + 1 ≤ 16 by omega)
  rw [V_v7]
  refine pyDiv_ap _ _ _ _ ?_ rfl (by omega) (by omega) (by omega)
  rw [subi_ap, addi_ap, w_v0 hg, bc0, bc0, constantI_at, constantI_at, BitVec.ofNat_add_ofNat, show (1#32 : BitVec 32) = BitVec.ofNat 32 1 from rfl,
    ofNat32_sub (by omega)]
  congr 1

/-- The number of visits of each group. -/
theorem w_v11 (i : Fin 16) : (V m (0 : Dev nD) main_v11 : IVec S16 32) (ValueIdx.ix1 i) = BitVec.ofNat 32 (nb g i.val) := by
  have h1 := hg.le (show i.val + 1 ≤ 16 by omega)
  have h2 := pre_succ g i.val
  rw [V_v11, select_at, cmpi_at, subi_ap, hg.arg, w_v7 hg, w_v2 hg, bc0, constantI_at, show (0#32 : BitVec 32) = BitVec.ofNat 32 0 from rfl,
    cmpi_sgt_ofNat (w := 32) (by omega) (by omega), select_decide, ofNat32_sub (by omega)]
  unfold nb
  split <;> rfl

/-- The running sums of the visits. -/
theorem w_v12 (i : Fin 16) : (V m (0 : Dev nD) main_v12 : IVec S16 32) (ValueIdx.ix1 i) = BitVec.ofNat 32 (pre (nb g) (i.val + 1)) := by
  rw [V_v12]
  exact cumsum1 (Nm1 := 15) rfl _ (nb g) (w_v11 hg) _ rfl _ _ i

/-- The number of all visits. -/
theorem w_v43 : (V m (0 : Dev nD) main_v43 : IVec S1 32) (ValueIdx.ix1 (0 : Fin 1)) = BitVec.ofNat 32 (tot g) := by
  rw [V_v43]
  exact (slice1 15 _ _ (0 : Fin 1) (by decide)).trans (w_v12 hg 15)

/-- The visit of each grid point. -/
theorem w_v18 (t : Fin 144) : (V m (0 : Dev nD) main_v18 : IVec S144 32) (ValueIdx.ix1 t) = BitVec.ofNat 32 (vis g t.val) := by
  have h0 := tot_pos g hg.sum
  have h1 := tot_le g hg.sum
  have ht := t.isLt
  have hs : shapeCast S_ (V m (0 : Dev nD) main_v43 : IVec S1 32) shapeCasts_S1_S_ ValueIdx.ix0 = BitVec.ofNat 32 (tot g) := by
    rw [← w_v43 hg]
    unfold shapeCast
    exact congrArg (V m (0 : Dev nD) main_v43 : IVec S1 32) (funext fun a => match a with | ⟨0, _⟩ => Subsingleton.elim (α := Fin 1) _ _)
  rw [V_v18]
  show IntOp.minsi (iotaInDim S144 32 0 (ValueIdx.ix1 t)) _ = _
  rw [bc0, subi_ap, hs, constantI_at, show (1#32 : BitVec 32) = BitVec.ofNat 32 1 from rfl, ofNat32_sub (by omega), iota1_ap]
  exact (PlanTiles.minsi_word (by omega) (by omega)).trans (by unfold vis; rw [Nat.min_comm])

/-- The expert of each grid point. -/
theorem w_v25 (t : Fin 144) : (V m (0 : Dev nD) main_v25 : IVec S144 32) (ValueIdx.ix1 t) = BitVec.ofNat 32 (ex g t.val) := by
  have h0 := tot_pos g hg.sum
  have h1 := tot_le g hg.sum
  rw [V_v25]
  refine reduce_count (n := 144) (m := 16) (by decide) _ _ _ _ t (fun e => pre (nb g) (e + 1) ≤ vis g t.val) fun q => ?_
  have hq := hg.q_le (show q.val + 1 ≤ 16 by omega)
  have hv : vis g t.val < 2 ^ 31 := by unfold vis; omega
  rw [cmpi_at, bcCols, bcRows, w_v18 hg, w_v12 hg]
  exact cmpi_sge_ofNat_eq_one_iff (w := 32) hv (by omega)

/-- The wrapped expert of each grid point. -/
theorem w_wrapped (t : Fin 144) : wrapped (V m (0 : Dev nD) main_v25 : IVec S144 32) (ValueIdx.ix2 t (0 : Fin 1)) = BitVec.ofNat 32 (ex g t.val) := by
  have h1 := (ex_spec g hg.sum t.val).1
  unfold wrapped
  rw [bcCol, select_at, cmpi_at, bc0, constantI_at, wrap_of_lt _ _ (by rw [w_v25 hg, toNat_ofNat_of_lt (by omega)]; omega), w_v25 hg]

/-- The block of each grid point. -/
theorem w_v42 (t : Fin 144) : (V m (0 : Dev nD) main_v42 : IVec S144 32) (ValueIdx.ix1 t) = BitVec.ofNat 32 (Sched.blk g t.val) := by
  obtain ⟨he, h1, h2⟩ := ex_spec g hg.sum t.val
  have h3 := pre_succ (nb g) (ex g t.val)
  refine (congrFun (V_v42 m (0 : Dev nD)) _).trans ((taken _ _ _ _ _ t ⟨ex g t.val, he⟩ (w_wrapped hg t)).trans ?_)
  rw [w_v12 hg ⟨ex g t.val, he⟩, w_v11 hg ⟨ex g t.val, he⟩, w_v2 hg ⟨ex g t.val, he⟩, w_v18 hg t]
  dsimp only
  rw [ofNat32_sub (by omega), BitVec.ofNat_add_ofNat, ofNat32_sub (by omega)]
  unfold Sched.blk
  congr 1
  omega

end Cert.KernelIdeal.Run
-- ==== Proof.PI.Body.lean ====
/- What one grid point of the kernel does to its output buffer: with its visit number below the total, every chunk of
   512 output columns takes the new value on the rows of the visit's expert and keeps the old value on the others;
   with its visit number at or past the total, nothing. -/
module

public import proofs.«01_k».proof.Proof.PI.Kit
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words a point reads -/

/-- The number of visits, read off the fifth table. -/
abbrev totW (c : Dev nD) (xt4 : TbBuf0 (F := F) c tbM0_4) : Elt F .i32 :=
  View.readAt (Elt F) tbM0_4.view (Rect.unit (s := S1) ![0] S1.size inb_S1_S1_0).toLoadRect xt4 (Shape.Idx.first (numel1_S1.symm ▸ Nat.one_pos))
/-- The expert of visit `i`, read off the second table. -/
abbrev expW (c : Dev nD) (i : grid0.Coords) (xt1 : TbBuf0 (F := F) c tbM0_1) : Elt F .i32 :=
  View.readAt (Elt F) tbM0_1.view (Rect.unit (s := S144) (k0_off2 i) S1.size (k0_off2_inb i)).toLoadRect xt1 (Shape.Idx.first (numel1_S1.symm ▸ Nat.one_pos))
/-- The block of visit `i`, read off the first table. -/
abbrev blkW (c : Dev nD) (i : grid0.Coords) (xt0 : TbBuf0 (F := F) c tbM0_0) : Elt F .i32 :=
  View.readAt (Elt F) tbM0_0.view (Rect.unit (s := S144) (k0_off4 i) S1.size (k0_off4_inb i)).toLoadRect xt0 (Shape.Idx.first (numel1_S1.symm ▸ Nat.one_pos))
/-- The first row of the expert `e`, read off the third table. -/
abbrev staW (c : Dev nD) (e : BitVec 32) (h : ∀ a, k0_off3 e a + S1.size a ≤ S16.size a) (xt2 : TbBuf0 (F := F) c tbM0_2) : Elt F .i32 :=
  View.readAt (Elt F) tbM0_2.view (Rect.unit (s := S16) (k0_off3 e) S1.size h).toLoadRect xt2 (Shape.Idx.first (numel1_S1.symm ▸ Nat.one_pos))
/-- The row past the last of the expert `e`, read off the fourth table. -/
abbrev endW (c : Dev nD) (e : BitVec 32) (h : ∀ a, k0_off3 e a + S1.size a ≤ S16.size a) (xt3 : TbBuf0 (F := F) c tbM0_3) : Elt F .i32 :=
  View.readAt (Elt F) tbM0_3.view (Rect.unit (s := S16) (k0_off3 e) S1.size h).toLoadRect xt3 (Shape.Idx.first (numel1_S1.symm ▸ Nat.one_pos))
/-- The scale of the expert `e`. -/
abbrev scaW (e : BitVec 32) (h : ∀ a, k0_off3 e a + S1.size a ≤ S16.size a) (x0 : Vec F S16 .f32) : Elt F .f32 :=
  View.ld x0 (Rect.unit (s := S16) (k0_off3 e) S1.size h) (Shape.Idx.first (numel1_S1.symm ▸ Nat.one_pos))

/-! ## The output buffer after a visit -/

/-- One chunk of 512 columns: the new values on the rows of the mask, the old ones elsewhere. -/
abbrev chunk (s : Elt F .f32) (mask : IVec S256x1 1) (q : FVec F S256x4096 .fp8e4m3) (w : Vec F S1x512x4096 .fp8e4m3)
    (ws : Vec F S1x1x512 .f32) (o : Vec F S256x512 .bf16) : FVec F S256x512 .bf16 :=
  k0_pay6 mask (k0_pay5 s q w ws) o

/-- The buffer after a visit, from the row mask and the quantised rows: ten chunks. -/
def newOutQ (s : Elt F .f32) (mask : IVec S256x1 1) (q : FVec F S256x4096 .fp8e4m3) (x2 : Vec F S1x5120x4096 .fp8e4m3)
    (x3 : Vec F S1x1x5120 .f32) (y : Vec F S256x5120 .bf16) : Vec F S256x5120 .bf16 :=
  View.canon [
    ⟨Rect.unit (s := S256x5120) ![0, 4608] S256x512.size inb_S256x5120_S256x512_0_4608,
      chunk s mask q (View.ld x2 (Rect.unit (s := S1x5120x4096) ![0, 4608, 0] S1x512x4096.size inb_S1x5120x4096_S1x512x4096_0_4608_0)) (View.ld x3 (Rect.unit (s := S1x1x5120) ![0, 0, 4608] S1x1x512.size inb_S1x1x5120_S1x1x512_0_0_4608)) (View.ld y (Rect.unit (s := S256x5120) ![0, 4608] S256x512.size inb_S256x5120_S256x512_0_4608))⟩,
    ⟨Rect.unit (s := S256x5120) ![0, 4096] S256x512.size inb_S256x5120_S256x512_0_4096,
      chunk s mask q (View.ld x2 (Rect.unit (s := S1x5120x4096) ![0, 4096, 0] S1x512x4096.size inb_S1x5120x4096_S1x512x4096_0_4096_0)) (View.ld x3 (Rect.unit (s := S1x1x5120) ![0, 0, 4096] S1x1x512.size inb_S1x1x5120_S1x1x512_0_0_4096)) (View.ld y (Rect.unit (s := S256x5120) ![0, 4096] S256x512.size inb_S256x5120_S256x512_0_4096))⟩,
    ⟨Rect.unit (s := S256x5120) ![0, 3584] S256x512.size inb_S256x5120_S256x512_0_3584,
      chunk s mask q (View.ld x2 (Rect.unit (s := S1x5120x4096) ![0, 3584, 0] S1x512x4096.size inb_S1x5120x4096_S1x512x4096_0_3584_0)) (View.ld x3 (Rect.unit (s := S1x1x5120) ![0, 0, 3584] S1x1x512.size inb_S1x1x5120_S1x1x512_0_0_3584)) (View.ld y (Rect.unit (s := S256x5120) ![0, 3584] S256x512.size inb_S256x5120_S256x512_0_3584))⟩,
    ⟨Rect.unit (s := S256x5120) ![0, 3072] S256x512.size inb_S256x5120_S256x512_0_3072,
      chunk s mask q (View.ld x2 (Rect.unit (s := S1x5120x4096) ![0, 3072, 0] S1x512x4096.size inb_S1x5120x4096_S1x512x4096_0_3072_0)) (View.ld x3 (Rect.unit (s := S1x1x5120) ![0, 0, 3072] S1x1x512.size inb_S1x1x5120_S1x1x512_0_0_3072)) (View.ld y (Rect.unit (s := S256x5120) ![0, 3072] S256x512.size inb_S256x5120_S256x512_0_3072))⟩,
    ⟨Rect.unit (s := S256x5120) ![0, 2560] S256x512.size inb_S256x5120_S256x512_0_2560,
      chunk s mask q (View.ld x2 (Rect.unit (s := S1x5120x4096) ![0, 2560, 0] S1x512x4096.size inb_S1x5120x4096_S1x512x4096_0_2560_0)) (View.ld x3 (Rect.unit (s := S1x1x5120) ![0, 0, 2560] S1x1x512.size inb_S1x1x5120_S1x1x512_0_0_2560)) (View.ld y (Rect.unit (s := S256x5120) ![0, 2560] S256x512.size inb_S256x5120_S256x512_0_2560))⟩,
    ⟨Rect.unit (s := S256x5120) ![0, 2048] S256x512.size inb_S256x5120_S256x512_0_2048,
      chunk s mask q (View.ld x2 (Rect.unit (s := S1x5120x4096) ![0, 2048, 0] S1x512x4096.size inb_S1x5120x4096_S1x512x4096_0_2048_0)) (View.ld x3 (Rect.unit (s := S1x1x5120) ![0, 0, 2048] S1x1x512.size inb_S1x1x5120_S1x1x512_0_0_2048)) (View.ld y (Rect.unit (s := S256x5120) ![0, 2048] S256x512.size inb_S256x5120_S256x512_0_2048))⟩,
    ⟨Rect.unit (s := S256x5120) ![0, 1536] S256x512.size inb_S256x5120_S256x512_0_1536,
      chunk s mask q (View.ld x2 (Rect.unit (s := S1x5120x4096) ![0, 1536, 0] S1x512x4096.size inb_S1x5120x4096_S1x512x4096_0_1536_0)) (View.ld x3 (Rect.unit (s := S1x1x5120) ![0, 0, 1536] S1x1x512.size inb_S1x1x5120_S1x1x512_0_0_1536)) (View.ld y (Rect.unit (s := S256x5120) ![0, 1536] S256x512.size inb_S256x5120_S256x512_0_1536))⟩,
    ⟨Rect.unit (s := S256x5120) ![0, 1024] S256x512.size inb_S256x5120_S256x512_0_1024,
      chunk s mask q (View.ld x2 (Rect.unit (s := S1x5120x4096) ![0, 1024, 0] S1x512x4096.size inb_S1x5120x4096_S1x512x4096_0_1024_0)) (View.ld x3 (Rect.unit (s := S1x1x5120) ![0, 0, 1024] S1x1x512.size inb_S1x1x5120_S1x1x512_0_0_1024)) (View.ld y (Rect.unit (s := S256x5120) ![0, 1024] S256x512.size inb_S256x5120_S256x512_0_1024))⟩,
    ⟨Rect.unit (s := S256x5120) ![0, 512] S256x512.size inb_S256x5120_S256x512_0_512,
      chunk s mask q (View.ld x2 (Rect.unit (s := S1x5120x4096) ![0, 512, 0] S1x512x4096.size inb_S1x5120x4096_S1x512x4096_0_512_0)) (View.ld x3 (Rect.unit (s := S1x1x5120) ![0, 0, 512] S1x1x512.size inb_S1x1x5120_S1x1x512_0_0_512)) (View.ld y (Rect.unit (s := S256x5120) ![0, 512] S256x512.size inb_S256x5120_S256x512_0_512))⟩,
    ⟨Rect.unit (s := S256x5120) ![0, 0] S256x512.size inb_S256x5120_S256x512_0_0,
      chunk s mask q (View.ld x2 (Rect.unit (s := S1x5120x4096) ![0, 0, 0] S1x512x4096.size inb_S1x5120x4096_S1x512x4096_0_0_0)) (View.ld x3 (Rect.unit (s := S1x1x5120) ![0, 0, 0] S1x1x512.size inb_S1x1x5120_S1x1x512_0_0_0)) (View.ld y (Rect.unit (s := S256x5120) ![0, 0] S256x512.size inb_S256x5120_S256x512_0_0))⟩]

/-- The ten chunks tile the buffer. -/
theorem cover_out (p0 p1 p2 p3 p4 p5 p6 p7 p8 p9 : Vec F S256x512 .bf16) (y : S256x5120.Idx) :
    ∃ pc ∈ ([⟨Rect.unit (s := S256x5120) ![0, 4608] S256x512.size inb_S256x5120_S256x512_0_4608, p9⟩, ⟨Rect.unit (s := S256x5120) ![0, 4096] S256x512.size inb_S256x5120_S256x512_0_4096, p8⟩, ⟨Rect.unit (s := S256x5120) ![0, 3584] S256x512.size inb_S256x5120_S256x512_0_3584, p7⟩, ⟨Rect.unit (s := S256x5120) ![0, 3072] S256x512.size inb_S256x5120_S256x512_0_3072, p6⟩, ⟨Rect.unit (s := S256x5120) ![0, 2560] S256x512.size inb_S256x5120_S256x512_0_2560, p5⟩, ⟨Rect.unit (s := S256x5120) ![0, 2048] S256x512.size inb_S256x5120_S256x512_0_2048, p4⟩, ⟨Rect.unit (s := S256x5120) ![0, 1536] S256x512.size inb_S256x5120_S256x512_0_1536, p3⟩, ⟨Rect.unit (s := S256x5120) ![0, 1024] S256x512.size inb_S256x5120_S256x512_0_1024, p2⟩, ⟨Rect.unit (s := S256x5120) ![0, 512] S256x512.size inb_S256x5120_S256x512_0_512, p1⟩, ⟨Rect.unit (s := S256x5120) ![0, 0] S256x512.size inb_S256x5120_S256x512_0_0, p0⟩] : List (View.Piece (Elt F) S256x5120 .bf16)), y ∈ pc.1.set :=
  View.cover_of_tiled [⟨Rect.unit (s := S256x5120) ![0, 4608] S256x512.size inb_S256x5120_S256x512_0_4608, p9⟩, ⟨Rect.unit (s := S256x5120) ![0, 4096] S256x512.size inb_S256x5120_S256x512_0_4096, p8⟩, ⟨Rect.unit (s := S256x5120) ![0, 3584] S256x512.size inb_S256x5120_S256x512_0_3584, p7⟩, ⟨Rect.unit (s := S256x5120) ![0, 3072] S256x512.size inb_S256x5120_S256x512_0_3072, p6⟩, ⟨Rect.unit (s := S256x5120) ![0, 2560] S256x512.size inb_S256x5120_S256x512_0_2560, p5⟩, ⟨Rect.unit (s := S256x5120) ![0, 2048] S256x512.size inb_S256x5120_S256x512_0_2048, p4⟩, ⟨Rect.unit (s := S256x5120) ![0, 1536] S256x512.size inb_S256x5120_S256x512_0_1536, p3⟩, ⟨Rect.unit (s := S256x5120) ![0, 1024] S256x512.size inb_S256x5120_S256x512_0_1024, p2⟩, ⟨Rect.unit (s := S256x5120) ![0, 512] S256x512.size inb_S256x5120_S256x512_0_512, p1⟩, ⟨Rect.unit (s := S256x5120) ![0, 0] S256x512.size inb_S256x5120_S256x512_0_0, p0⟩] S256x512.size (by rfl) y

/-- The buffer after a visit. -/
abbrev newOut (s : Elt F .f32) (bl st en : BitVec 32) (x1 : Vec F S256x4096 .bf16) (x2 : Vec F S1x5120x4096 .fp8e4m3)
    (x3 : Vec F S1x1x5120 .f32) (y : Vec F S256x5120 .bf16) : Vec F S256x5120 .bf16 :=
  newOutQ s (k0_pay4 (F := F) bl st en) (k0_pay3 s (View.ld x1 (Rect.unit (s := S256x4096) ![0, 0] S256x4096.size inb_S256x4096_S256x4096_0_0))) x2 x3 y

/-! ## The two runs of the body -/

set_option maxHeartbeats 1600000 in
/-- A point whose visit number is below the total. -/
theorem run_active (c : Dev nD) (i : grid0.Coords) (arg6 : Memref sig .tc .smem S16 .f32) (harg6 : arg6.IsWhole) (arg7 : Memref sig .tc .vmem S256x4096 .bf16) (harg7 : arg7.IsWhole) (arg8 : Memref sig .tc .vmem S1x5120x4096 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x4096 .fp8e4m3) (harg11 : arg11.IsWhole)
    (x0 : Vec F S16 .f32) (x1 : Vec F S256x4096 .bf16) (x2 : Vec F S1x5120x4096 .fp8e4m3) (x3 : Vec F S1x1x5120 .f32) (y : Vec F S256x5120 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (hc : k0_cond1 i (totW c xt4) = 1#1) (hk : k0_chk1 i (totW c xt4) (expW c i xt1)) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare y ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare (newOut (scaW (expW c i xt1) (hk hc) x0) (blkW c i xt0) (staW c (expW c i xt1) (hk hc) xt2) (endW c (expW c i xt1) (hk hc) xt3) x1 x2 x3 y) ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_grouped_fp8_proj i tbM0_0 htbM0_0 tbM0_1 htbM0_1 tbM0_2 htbM0_2 tbM0_3 htbM0_3 tbM0_4 htbM0_4 arg6 harg6 arg7 harg7 arg8 harg8 arg9 harg9 arg10 harg10 arg11 harg11) K := by
    intro E K
    simp only [cc0_grouped_fp8_proj_eq_skeleton]; unfold cc0_grouped_fp8_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, HT2, HT3, HT4, Hk⟩
    subst hf0 hf1 hf2 hf3 hf4
    sl_exec (disch := first | exact hc | exact hk)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists _; isplitr
      swap; · iexact H4
      ipureintro
      have hq : run_active.sl.v35 c i arg6 arg7 arg11 xt1 xt4 hc hk f0 f1
          = k0_pay3 (scaW (expW c i xt1) (hk hc) (arg6.view.read (Elt F) f0)) (View.ld (arg7.view.read (Elt F) f1) (Rect.unit (s := S256x4096) ![0, 0] S256x4096.size inb_S256x4096_S256x4096_0_0)) := by
        delta run_active.sl.v35
        exact View.readCov_cons_toLoadRect _ _ _ _
      refine (View.read_writes_eq_canon _ _ _ (cover_out _ _ _ _ _ _ _ _ _ _)).trans ?_
      refine Eq.trans ?_ (congrArg (fun q => newOutQ (scaW (expW c i xt1) (hk hc) (arg6.view.read (Elt F) f0)) (k0_pay4 (F := F) (blkW c i xt0) (staW c (expW c i xt1) (hk hc) xt2) (endW c (expW c i xt1) (hk hc) xt3)) q (arg8.view.read (Elt F) f2) (arg9.view.read (Elt F) f3) (arg10.view.read (Elt F) f4)) hq)
      rfl
    isplitl [HS0]
    · iexists _, _; isplitr; swap; · iexact HS0
      ipureintro; rfl
    isplitl [HT0]; · iexact HT0
    isplitl [HT1]; · iexact HT1
    isplitl [HT2]; · iexact HT2
    isplitl [HT3]; · iexact HT3
    iexact HT4

set_option maxHeartbeats 1600000 in
/-- A point whose visit number is not below the total leaves the output buffer as it was. -/
theorem run_idle (c : Dev nD) (i : grid0.Coords) (arg6 : Memref sig .tc .smem S16 .f32) (harg6 : arg6.IsWhole) (arg7 : Memref sig .tc .vmem S256x4096 .bf16) (harg7 : arg7.IsWhole) (arg8 : Memref sig .tc .vmem S1x5120x4096 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x4096 .fp8e4m3) (harg11 : arg11.IsWhole)
    (x0 : Vec F S16 .f32) (x1 : Vec F S256x4096 .bf16) (x2 : Vec F S1x5120x4096 .fp8e4m3) (x3 : Vec F S1x1x5120 .f32) (y : Vec F S256x5120 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (hc : ¬ k0_cond1 i (totW c xt4) = 1#1) :
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare y ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare y ∗ (∃ d, owns (c : Thread nD τ) arg11 fullShare d) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0_grouped_fp8_proj i tbM0_0 htbM0_0 tbM0_1 htbM0_1 tbM0_2 htbM0_2 tbM0_3 htbM0_3 tbM0_4 htbM0_4 arg6 harg6 arg7 harg7 arg8 harg8 arg9 harg9 arg10 harg10 arg11 harg11) K := by
    intro E K
    simp only [cc0_grouped_fp8_proj_eq_skeleton]; unfold cc0_grouped_fp8_proj_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, HT2, HT3, HT4, Hk⟩
    subst hf0 hf1 hf2 hf3 hf4
    sl_exec (disch := first | exact hc )
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [HS0]
    · iexists _, _; isplitr; swap; · iexact HS0
      ipureintro; rfl
    isplitl [HT0]; · iexact HT0
    isplitl [HT1]; · iexact HT1
    isplitl [HT2]; · iexact HT2
    isplitl [HT3]; · iexact HT3
    iexact HT4

end Cert.KernelIdeal.Run

end
-- ==== Proof.PI.Run.lean ====
/- The run of the kernel program: the proof data of its one pipeline — every input window's buffer at its block, the output
   window's buffer related to what the point found there —, the body's obligation at every point, and the launch. -/
module

public import proofs.«01_k».proof.Proof.PI.Body
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The body's side condition at every point: the expert word read there is below 16. -/
abbrev Chk : Prop := ∀ t : Fin grid0.N, k0_chk1 (grid0.coords t) (totW (F := F) 0 (tbl m 4)) (expW (F := F) 0 (grid0.coords t) (tbl m 1))

/-- Point `t` is a visit: its number is below the total. -/
abbrev Live (t : Fin grid0.N) : Prop := k0_cond1 (grid0.coords t) (totW (F := F) 0 (tbl m 4)) = 1#1

/-- What a visit leaves in the output buffer, from what it found there. -/
def leave (hO : Ok m) (hK : Chk m) (c : Dev nD) (t : Fin (cfgM m hO).N) (hc : Live m t) (Y : Vec F S256x5120 .bf16) : Vec F S256x5120 .bf16 :=
  newOut (scaW (expW (F := F) 0 (grid0.coords t) (tbl m 1)) (hK t hc) (iblk m hO c 0 t)) (blkW (F := F) 0 (grid0.coords t) (tbl m 0))
    (staW (F := F) 0 (expW (F := F) 0 (grid0.coords t) (tbl m 1)) (hK t hc) (tbl m 2)) (endW (F := F) 0 (expW (F := F) 0 (grid0.coords t) (tbl m 1)) (hK t hc) (tbl m 3))
    (iblk m hO c 1 t) (iblk m hO c 2 t) (iblk m hO c 3 t) Y

/-- The relation of the output buffer's contents before (`Y`) and after (`X`) point `t`. -/
def Step (hO : Ok m) (hK : Chk m) (c : Dev nD) (t : Fin (cfgM m hO).N) (Y X : Vec F S256x5120 .bf16) : Prop :=
  (∀ hc : Live m t, X = leave m hO hK c t hc Y) ∧ (¬ Live m t → X = Y)

/-- The exact part of the proof data: the arrays as the region finds them, every input's buffer at its block. -/
def dats (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- Which window is held to a relation, and to which: the output one, to `Step`. -/
def rel (hO : Ok m) (hK : Chk m) (c : Dev nD) : (w : Fin (cfgM m hO).W) → Option (Fin (cfgM m hO).N → (Y X : ((cfgM m hO).win w).block.Idx → Elt F ((cfgM m hO).win w).elt) → Prop)
  | ⟨0, _⟩ => none
  | ⟨1, _⟩ => none
  | ⟨2, _⟩ => none
  | ⟨3, _⟩ => none
  | ⟨4, _⟩ => some (fun t Y X => Step m hO hK c t Y X)

/-- The proof data of the pipeline. -/
def rdat (hO : Ok m) (hK : Chk m) (c : Dev nD) : Pipeline.RDat τ (Elt F) Unit ℕ (UR sig nD τ) ℕ (cfgM m hO) c :=
  (dats m hO c).toR.override (rel m hO hK c)

theorem A_eq (hO : Ok m) (c : Dev nD) (w : Fin (cfgM m hO).W) : (dats m hO c).A w = V m c (Pipeline.arrRef spec0 w) := by
  dsimp only [dats]

theorem rA_eq (hO : Ok m) (hK : Chk m) (c : Dev nD) (w : Fin (cfgM m hO).W) : (rdat m hO hK c).A w = V m c (Pipeline.arrRef spec0 w) :=
  A_eq m hO c w

theorem after0_0 (hO : Ok m) (c : Dev nD) (t : Fin (cfgM m hO).N) : (dats m hO c).after 0 t = iblk m hO c 0 t := by dsimp only [dats]; try rfl
/-- What the body finds in input window 0's buffer: its block. -/
theorem finds0_0 (hO : Ok m) (hK : Chk m) (c : Dev nD) (t : Fin (cfgM m hO).N) (X) (h : (rdat m hO hK c).Finds 0 t X) : X = iblk m hO c 0 t := by
  obtain ⟨d, hd⟩ := (dats m hO c).toR_finds 0 t X (((dats m hO c).toR.override_finds (ovr := rel m hO hK c) (w := 0) rfl t X).mp h)
  exact hd.trans (before0_0_of m hO (dats m hO c) (A_eq m hO c 0) (after0_0 m hO c) t d)
/-- What it may leave there. -/
theorem rafter0_0 (hO : Ok m) (hK : Chk m) (c : Dev nD) (t : Fin (cfgM m hO).N) (Y) : (rdat m hO hK c).after 0 t Y (iblk m hO c 0 t) := by
  have h : (rdat m hO hK c).after 0 = (dats m hO c).toR.after 0 := (dats m hO c).toR.override_after_of_eq_none rfl
  rw [h]
  show (dats m hO c).Leaves 0 t _
  rw [Dat.Leaves.live_iff _ (.inl rfl)]
  exact (after0_0 m hO c t).symm
theorem after0_1 (hO : Ok m) (c : Dev nD) (t : Fin (cfgM m hO).N) : (dats m hO c).after 1 t = iblk m hO c 1 t := by dsimp only [dats]; try rfl
/-- What the body finds in input window 1's buffer: its block. -/
theorem finds0_1 (hO : Ok m) (hK : Chk m) (c : Dev nD) (t : Fin (cfgM m hO).N) (X) (h : (rdat m hO hK c).Finds 1 t X) : X = iblk m hO c 1 t := by
  obtain ⟨d, hd⟩ := (dats m hO c).toR_finds 1 t X (((dats m hO c).toR.override_finds (ovr := rel m hO hK c) (w := 1) rfl t X).mp h)
  exact hd.trans (before0_1_of m hO (dats m hO c) (A_eq m hO c 1) (after0_1 m hO c) t d)
/-- What it may leave there. -/
theorem rafter0_1 (hO : Ok m) (hK : Chk m) (c : Dev nD) (t : Fin (cfgM m hO).N) (Y) : (rdat m hO hK c).after 1 t Y (iblk m hO c 1 t) := by
  have h : (rdat m hO hK c).after 1 = (dats m hO c).toR.after 1 := (dats m hO c).toR.override_after_of_eq_none rfl
  rw [h]
  show (dats m hO c).Leaves 1 t _
  rw [Dat.Leaves.live_iff _ (.inl rfl)]
  exact (after0_1 m hO c t).symm
theorem after0_2 (hO : Ok m) (c : Dev nD) (t : Fin (cfgM m hO).N) : (dats m hO c).after 2 t = iblk m hO c 2 t := by dsimp only [dats]; try rfl
/-- What the body finds in input window 2's buffer: its block. -/
theorem finds0_2 (hO : Ok m) (hK : Chk m) (c : Dev nD) (t : Fin (cfgM m hO).N) (X) (h : (rdat m hO hK c).Finds 2 t X) : X = iblk m hO c 2 t := by
  obtain ⟨d, hd⟩ := (dats m hO c).toR_finds 2 t X (((dats m hO c).toR.override_finds (ovr := rel m hO hK c) (w := 2) rfl t X).mp h)
  exact hd.trans (before0_2_of m hO (dats m hO c) (A_eq m hO c 2) (after0_2 m hO c) t d)
/-- What it may leave there. -/
theorem rafter0_2 (hO : Ok m) (hK : Chk m) (c : Dev nD) (t : Fin (cfgM m hO).N) (Y) : (rdat m hO hK c).after 2 t Y (iblk m hO c 2 t) := by
  have h : (rdat m hO hK c).after 2 = (dats m hO c).toR.after 2 := (dats m hO c).toR.override_after_of_eq_none rfl
  rw [h]
  show (dats m hO c).Leaves 2 t _
  rw [Dat.Leaves.live_iff _ (.inl rfl)]
  exact (after0_2 m hO c t).symm
theorem after0_3 (hO : Ok m) (c : Dev nD) (t : Fin (cfgM m hO).N) : (dats m hO c).after 3 t = iblk m hO c 3 t := by dsimp only [dats]; try rfl
/-- What the body finds in input window 3's buffer: its block. -/
theorem finds0_3 (hO : Ok m) (hK : Chk m) (c : Dev nD) (t : Fin (cfgM m hO).N) (X) (h : (rdat m hO hK c).Finds 3 t X) : X = iblk m hO c 3 t := by
  obtain ⟨d, hd⟩ := (dats m hO c).toR_finds 3 t X (((dats m hO c).toR.override_finds (ovr := rel m hO hK c) (w := 3) rfl t X).mp h)
  exact hd.trans (before0_3_of m hO (dats m hO c) (A_eq m hO c 3) (after0_3 m hO c) t d)
/-- What it may leave there. -/
theorem rafter0_3 (hO : Ok m) (hK : Chk m) (c : Dev nD) (t : Fin (cfgM m hO).N) (Y) : (rdat m hO hK c).after 3 t Y (iblk m hO c 3 t) := by
  have h : (rdat m hO hK c).after 3 = (dats m hO c).toR.after 3 := (dats m hO c).toR.override_after_of_eq_none rfl
  rw [h]
  show (dats m hO c).Leaves 3 t _
  rw [Dat.Leaves.live_iff _ (.inl rfl)]
  exact (after0_3 m hO c t).symm

/-- What the body may leave in the output window's buffer. -/
theorem rafter0_4 (hO : Ok m) (hK : Chk m) (c : Dev nD) : (rdat m hO hK c).after 4 = fun t Y X => Step m hO hK c t Y X :=
  (dats m hO c).toR.override_after_of_eq_some rfl

/-! ## The body obligation -/

/-- What the body is called with at point `t`, its output buffer at `Y`, -/
def bodyPre (hO : Ok m) (c : Dev nD) (t : Fin (cfgM m hO).N) (Y : Vec F S256x5120 .bf16) : sProp 𝕄 :=
  iprop((dats m hO c).Φ t.castSucc ∗ (dats m hO c).owesAt () t.castSucc
    ∗ owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ owns (c : Thread nD τ) (ms0_4 m hO t) fullShare Y)

/-- and what it returns. -/
def bodyPost (hO : Ok m) (hK : Chk m) (c : Dev nD) (t : Fin (cfgM m hO).N) (Y : Vec F S256x5120 .bf16) : sProp 𝕄 :=
  iprop((dats m hO c).Φ t.succ ∗ (dats m hO c).owesAt () t.succ
    ∗ owns (c : Thread nD τ) (ms0_0 m hO t) fullShare (iblk m hO c 0 t) ∗ owns (c : Thread nD τ) (ms0_1 m hO t) fullShare (iblk m hO c 1 t) ∗ owns (c : Thread nD τ) (ms0_2 m hO t) fullShare (iblk m hO c 2 t) ∗ owns (c : Thread nD τ) (ms0_3 m hO t) fullShare (iblk m hO c 3 t) ∗ (∃ X, ⌜Step m hO hK c t Y X⌝ ∗ owns (c : Thread nD τ) (ms0_4 m hO t) fullShare X))

/-- The body at any point: the two runs, chosen by the visit number. -/
theorem sound_body (hO : Ok m) (hK : Chk m) (c : Dev nD) (t : Fin (cfgM m hO).N) (Y : Vec F S256x5120 .bf16) :
    bodyPre m hO c t Y ⊢ wp frame (wpE (defs₀ (F := F)) Variants.none c none) Set.univ (bodyAt0 m hO t) (fun _ => bodyPost m hO hK c t Y) := by
  obtain rfl : c = 0 := Subsingleton.elim _ _
  unfold bodyPre bodyPost bodyAt0
  rw [show (dats m hO 0).Φ t.succ = (dats m hO 0).Φ t.castSucc from rfl,
    show (dats m hO 0).owesAt () t.succ = (dats m hO 0).owesAt () t.castSucc from rfl]
  rw [show (dats m hO 0).Φ t.castSucc = iprop(Pipeline.ΦA spec0 0 ∗ Pipeline.ΦT pre0 (tbl m) 0) from rfl, PhiT0_eq, PhiA0_eq]
  iintro ⟨⟨⟨HS0, Hg⟩, ⟨HT0, HT1, HT2, HT3, HT4⟩⟩, Ho, H0, H1, H2, H3, H4⟩
  by_cases hc : Live m t
  · iapply (run_active 0 (grid0.coords t) _ _ _ _ _ _ _ _ _ _ _ _ (iblk m hO 0 0 t) (iblk m hO 0 1 t) (iblk m hO 0 2 t) (iblk m hO 0 3 t) Y (tbl m 0) (tbl m 1) (tbl m 2) (tbl m 3) (tbl m 4) hc (hK t) Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    isplitl [HT2]; · iexact HT2
    isplitl [HT3]; · iexact HT3
    isplitl [HT4]; · iexact HT4
    iintro ⟨H0, H1, H2, H3, H4, HS0, HT0, HT1, HT2, HT3, HT4⟩
    isplitl [HS0 Hg HT0 HT1 HT2 HT3 HT4]
    · isplitl [HS0 Hg]
      · isplitl [HS0]
        · iexact HS0
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    isplitl [H3]; · iexact H3
    iexists _; isplitr; swap; · iexact H4
    ipureintro
    exact ⟨fun _ => rfl, fun h => absurd hc h⟩
  · iapply (run_idle 0 (grid0.coords t) _ _ _ _ _ _ _ _ _ _ _ _ (iblk m hO 0 0 t) (iblk m hO 0 1 t) (iblk m hO 0 2 t) (iblk m hO 0 3 t) Y (tbl m 0) (tbl m 1) (tbl m 2) (tbl m 3) (tbl m 4) hc Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    isplitl [HT2]; · iexact HT2
    isplitl [HT3]; · iexact HT3
    isplitl [HT4]; · iexact HT4
    iintro ⟨H0, H1, H2, H3, H4, HS0, HT0, HT1, HT2, HT3, HT4⟩
    isplitl [HS0 Hg HT0 HT1 HT2 HT3 HT4]
    · isplitl [HS0 Hg]
      · isplitl [HS0]
        · iexact HS0
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    isplitl [H3]; · iexact H3
    iexists _; isplitr; swap; · iexact H4
    ipureintro
    exact ⟨fun h => absurd h hc, fun _ => rfl⟩

/-- The pipeline's body obligation. -/
theorem body_obligation (hO : Ok m) (hK : Chk m) (c : Dev nD) :
    (rdat m hO hK c).BodyObligation (defs₀ (F := F)) Variants.none () Set.univ := fun t Y hY => by
  have e0 : Y 0 = iblk m hO c 0 t := finds0_0 m hO hK c t (Y 0) (hY 0)
  have e1 : Y 1 = iblk m hO c 1 t := finds0_1 m hO hK c t (Y 1) (hY 1)
  have e2 : Y 2 = iblk m hO c 2 t := finds0_2 m hO hK c t (Y 2) (hY 2)
  have e3 : Y 3 = iblk m hO c 3 t := finds0_3 m hO hK c t (Y 3) (hY 3)
  rw [bigSep_W0, bigSep_W0, defs₀_row m hO, e0, e1, e2, e3, rafter0_4]
  refine triple_restated (sound_body m hO hK c t (Y 4)) rfl .rfl fun _ => ?_
  unfold bodyPost
  rw [show (rdat m hO hK c).Φ t.succ = (dats m hO c).Φ t.succ from rfl,
    show (rdat m hO hK c).owesAt () t.succ = (dats m hO c).owesAt () t.succ from rfl]
  iintro ⟨HP, Ho, H0, H1, H2, H3, H4⟩
  isplitl [HP]; · iexact HP
  isplitl [Ho]; · iexact Ho
  isplitl [H0]
  · iexists _; isplitr; swap; · iexact H0
    ipureintro; exact rafter0_0 m hO hK c t _
  isplitl [H1]
  · iexists _; isplitr; swap; · iexact H1
    ipureintro; exact rafter0_1 m hO hK c t _
  isplitl [H2]
  · iexists _; isplitr; swap; · iexact H2
    ipureintro; exact rafter0_2 m hO hK c t _
  isplitl [H3]
  · iexists _; isplitr; swap; · iexact H3
    ipureintro; exact rafter0_3 m hO hK c t _
  iexact H4

/-! ## The launch -/

theorem rshare (hO : Ok m) (hK : Chk m) (c : Dev nD) (w : Fin (cfgM m hO).W) : (rdat m hO hK c).share w = fullShare :=
  (dats m hO c).share_full (fun _ => rfl) w

theorem rowed (hO : Ok m) (hK : Chk m) (c : Dev nD) (t) : (rdat m hO hK c).owed t = 0 := rfl

theorem rΦ (hO : Ok m) (hK : Chk m) (c : Dev nD) (t) : (rdat m hO hK c).Φ t = iprop(Pipeline.ΦA spec0 c ∗ Pipeline.ΦT pre0 (tbl m) c) := rfl

set_option maxHeartbeats 1600000 in
set_option backward.isDefEq.respectTransparency.types false in
/-- Every weakly fair execution of @main terminates, every final state has the arrays as the proof data say, every other
    unscoped buffer as the region found it, and every semaphore counter at zero. -/
theorem run_main (hO : Ok m) (hK : Chk m) : θ_run defs (onTc (τ := τ) (main (F := F))) (s₀ m ρ)
    (fun r => (Pipeline.RDat.FramePost ((Pipeline.pin pcfgs fun _ => adm m hO) 0) (rdat m hO hK) (V m)) r ∧ r.2.sem = fun _ => 0) :=
  Pipeline.RDat.θ_run_frameP (Q' := _) pcfgs (fun _ => adm m hO) (0 : Fin 1) launch0 defs₀ Variants.none (rdat m hO hK) m ρ main
    (hbody := body_obligation m hO hK) (hshare := rshare m hO hK)
    (howed := rowed m hO hK) (V := V m) (hmain := hmain m Variants.none) (hA := rA_eq m hO hK) (hpf := V_pre m) (hΦ := rΦ m hO hK)

/-- The arguments are unchanged at the end of such an execution. -/
theorem args_of (hO : Ok m) (hK : Chk m) {r : PUnit × MemSt nD τ sig (Elt F)}
    (h : Pipeline.RDat.FramePost ((Pipeline.pin pcfgs fun _ => adm m hO) 0) (rdat m hO hK) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 1 rfl).trans ((rA_eq m hO hK c 1).trans (V_main_arg0 m c)),
    ((h c).2 main_arg1 (by decide : main_arg1 ∈ Pipeline.restRefs sig spec0)).trans (V_main_arg1 m c),
    (Pipeline.RDat.FramePost.arr_in h c 0 rfl).trans ((rA_eq m hO hK c 0).trans (V_main_arg2 m c)),
    (Pipeline.RDat.FramePost.arr_in h c 2 rfl).trans ((rA_eq m hO hK c 2).trans (V_main_arg3 m c)),
    ((h c).2 main_arg4 (by decide : main_arg4 ∈ Pipeline.restRefs sig spec0)).trans (V_main_arg4 m c)⟩

/-- The frame: the arguments are unchanged and every counter is zero. -/
theorem frame_run (hO : Ok m) (hK : Chk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_of m hO hK h.1, h.2⟩) (run_main m ρ hO hK)

/-- The run with its result: the arguments unchanged, the output array at contents the proof data allow. -/
theorem value_run (hO : Ok m) (hK : Chk m) : θ_run defs (onTc (τ := τ) (main (F := F))) ⟨m, fun _ => 0, ρ⟩ (fun r => ∀ c : Dev nD,
      (rdat m hO hK c).ArrAt 4 (cfgM m hO).N (r.2.mem ((c.tc : Thread nD τ).loc main_v45))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 4, args_of m hO hK h.1 c⟩) (run_main m ρ hO hK)

end Cert.KernelIdeal.Run

end
-- ==== Proof.PI.Ok.lean ====
/- The kernel's tables at the numbers of the schedule: what the body and the index maps read from them, that every block they
   name lies in its array, and that the body's own check of the expert passes. -/
module

public import proofs.«01_k».proof.Proof.PI.Words
public import proofs.«01_k».proof.Proof.PI.Run
public import Idealize.ShloMosaic.Lib.PairWhole

@[expose] public section

set_option maxRecDepth 16384

noncomputable section

namespace Cert.KernelIdeal.Run

open Cert.KernelIdeal.Gen Cert.Sched
open Idealize.ShloMosaic Idealize.ShloMosaic.TcCoe Idealize.ShloMosaic.Routing Idealize.ShloMosaic.WordCmp

variable {F : FTy → Type} [FloatOps F]
variable (m : (ℓ : Loc nD τ sig) → Buf (Elt F) ℓ)

/-- The one coordinate of a grid point is its number. -/
theorem coords_val (t : Fin grid0.N) : (grid0.coords t 0).val = t.val := by
  have h := Pipeline.Grid.coords_val t 0 (S := 1) (B := 144) rfl rfl
  have ht : t.val < 144 := t.isLt
  rw [h]; omega

/-- The grid has 144 points. -/
theorem point_lt (t : Fin grid0.N) : t.val < 144 := t.isLt

/-- The one element of a one-element rectangle of a vector. -/
theorem emb1 {n : ℕ} (off : Fin 1 → ℕ) (h : ∀ a, off a + S1.size a ≤ (shape1 n).size a) (hp : 0 < (Rect.unit (s := shape1 n) off S1.size h).shape.numel) (k : Fin n)
    (hk : off 0 = k.val) : (Rect.unit (s := shape1 n) off S1.size h).emb (Shape.Idx.first hp) = ValueIdx.ix1 k := by
  funext a
  refine Fin.ext ?_
  match a with
  | ⟨0, _⟩ =>
    have h0 : ((Shape.Idx.first hp : (Rect.unit (s := shape1 n) off S1.size h).shape.Idx) 0).val = 0 :=
      Nat.lt_one_iff.1 ((Shape.Idx.first hp : (Rect.unit (s := shape1 n) off S1.size h).shape.Idx) 0).isLt
    show off 0 + 1 * ((Shape.Idx.first hp : (Rect.unit (s := shape1 n) off S1.size h).shape.Idx) 0).val = k.val
    rw [h0, hk]; omega

/-- A small number as a word and back. -/
theorem ofNat_toNat {k : ℕ} (h : k < 2 ^ 31) : (BitVec.ofNat 32 k).toNat = k := toNat_ofNat_of_lt (by omega)

/-- The body's condition compares the point with the number of visits. -/
theorem cond1_iff (i : grid0.Coords) (v : BitVec 32) : k0_cond1 i v = 1#1 ↔ IntOp.cmpi .slt (BitVec.ofNat 32 (i 0).val) v = 1#1 := by
  show IntOp.cmpi .ne ((IntOp.cmpi .slt (BitVec.ofNat 32 (i 0).val) v).setWidth 32) 0#32 = 1#1 ↔ _
  generalize IntOp.cmpi .slt (BitVec.ofNat 32 (i 0).val) v = b
  revert b
  decide

variable {m} {g : ℕ → ℕ} (hg : Groups m g)
include hg

/-- The body reads the number of visits. -/
theorem wTot : totW 0 (tbl m 4) = BitVec.ofNat 32 (tot g) := by
  refine Eq.trans ?_ (w_v43 hg)
  exact congrArg (V m (0 : Dev nD) main_v43 : IVec S1 32) (emb1 (n := 1) _ _ _ 0 rfl)

/-- The body reads a point's expert. -/
theorem wExp (i : grid0.Coords) : expW 0 i (tbl m 1) = BitVec.ofNat 32 (ex g (i 0).val) := by
  refine Eq.trans ?_ (w_v25 hg (i 0))
  exact congrArg (V m (0 : Dev nD) main_v25 : IVec S144 32) (emb1 (n := 144) _ _ _ (i 0) (ofNat_toNat (by have : (i 0).val < 144 := (i 0).isLt; omega)))

/-- The body reads a point's block. -/
theorem wBlk (i : grid0.Coords) : blkW 0 i (tbl m 0) = BitVec.ofNat 32 (Sched.blk g (i 0).val) := by
  refine Eq.trans ?_ (w_v42 hg (i 0))
  exact congrArg (V m (0 : Dev nD) main_v42 : IVec S144 32) (emb1 (n := 144) _ _ _ (i 0) (ofNat_toNat (by have : (i 0).val < 144 := (i 0).isLt; omega)))

/-- The body reads an expert's first row. -/
theorem wSta (e : BitVec 32) (h) (k : Fin 16) (hk : e = BitVec.ofNat 32 k.val) : staW 0 e h (tbl m 2) = BitVec.ofNat 32 (pre g k.val) := by
  refine Eq.trans ?_ (w_v1 hg k)
  exact congrArg (V m (0 : Dev nD) main_v1 : IVec S16 32) (emb1 (n := 16) _ _ _ k (by subst hk; exact ofNat_toNat (by omega)))

/-- The body reads the row past an expert's last. -/
theorem wEnd (e : BitVec 32) (h) (k : Fin 16) (hk : e = BitVec.ofNat 32 k.val) : endW 0 e h (tbl m 3) = BitVec.ofNat 32 (pre g (k.val + 1)) := by
  refine Eq.trans ?_ (w_v0 hg k)
  exact congrArg (V m (0 : Dev nD) main_v0 : IVec S16 32) (emb1 (n := 16) _ _ _ k (by subst hk; exact ofNat_toNat (by omega)))

/-- A point's block as the index maps read it. -/
theorem at_blk (i : grid0.Coords) : ((tbl m).at 0 (Rect.unit (s := S144) (k0_off1 i) S1.size (Facts₀.k0_off1_inb i)) Facts₀.numel1_S1 : BitVec 32).toNat = Sched.blk g (i 0).val :=
  (congrArg BitVec.toNat (wBlk hg i)).trans (ofNat_toNat (by have := blk_lt g hg.sum (i 0).val; omega))

/-- A point's expert as the index maps read it. -/
theorem at_ex (i : grid0.Coords) : ((tbl m).at 1 (Rect.unit (s := S144) (k0_off1 i) S1.size (Facts₀.k0_off1_inb i)) Facts₀.numel1_S1 : BitVec 32).toNat = ex g (i 0).val :=
  (congrArg BitVec.toNat (wExp hg i)).trans (ofNat_toNat (by have := (ex_spec g hg.sum (i 0).val).1; omega))

/-- The rows' window is at the point's block. -/
theorem tr1 (i : grid0.Coords) : cc0_transform_1 Facts₀.k0_off1_inb Facts₀.numel1_S1 (tbl m) i = ![Sched.blk g (i 0).val, 0] := by
  rw [← at_blk hg i]; rfl

/-- The weights' window is at the point's expert. -/
theorem tr2 (i : grid0.Coords) : cc0_transform_2 Facts₀.k0_off1_inb Facts₀.numel1_S1 (tbl m) i = ![ex g (i 0).val, 0, 0] := by
  rw [← at_ex hg i]; rfl

/-- The weight scales' window is at the point's expert. -/
theorem tr3 (i : grid0.Coords) : cc0_transform_3 Facts₀.k0_off1_inb Facts₀.numel1_S1 (tbl m) i = ![ex g (i 0).val, 0, 0] := by
  rw [← at_ex hg i]; rfl

/-- The output's window is at the point's block. -/
theorem tr4 (i : grid0.Coords) : cc0_transform_4 Facts₀.k0_off1_inb Facts₀.numel1_S1 (tbl m) i = ![Sched.blk g (i 0).val, 0] := by
  rw [← at_blk hg i]; rfl

/-- Every block lies in its array and ends at whole words. -/
theorem ok : Ok m := by
  have hb : ∀ i : grid0.Coords, Sched.blk g (i 0).val < 128 := fun i => blk_lt g hg.sum _
  have he : ∀ i : grid0.Coords, ex g (i 0).val < 16 := fun i => (ex_spec g hg.sum _).1
  refine ⟨fun i => ⟨fun a => ?_, .inr ?_⟩, fun i => ⟨fun a => ?_, .inr ?_⟩, fun i => ⟨fun a => ?_, .inl rfl⟩, fun i => ⟨fun a => ?_, .inr ?_⟩⟩
  · have := hb i
    rw [tr1 hg i]
    fin_cases a
    · show (Sched.blk g (i 0).val + 1) * 256 ≤ 32768; omega
    · show (0 + 1) * 4096 ≤ 4096; omega
  · refine (Rect.packedRows_of_rowAxis _ _ (le_refl 2) ?_ ?_ rfl).wholeWords
    · show 2 ∣ cc0_transform_1 Facts₀.k0_off1_inb Facts₀.numel1_S1 (tbl m) i 0 * 256
      exact Dvd.dvd.mul_left (by decide) _
    · show 2 ∣ 256
      decide
  · have := he i
    rw [tr2 hg i]
    fin_cases a
    · show (ex g (i 0).val + 1) * 1 ≤ 16; omega
    · show (0 + 1) * 5120 ≤ 5120; omega
    · show (0 + 1) * 4096 ≤ 4096; omega
  · refine (Rect.packedRows_of_rowAxis _ _ (by decide : 2 ≤ 3) ?_ ?_ rfl).wholeWords
    · show 4 ∣ cc0_transform_2 Facts₀.k0_off1_inb Facts₀.numel1_S1 (tbl m) i 1 * 5120
      exact Dvd.dvd.mul_left (by decide) _
    · show 4 ∣ 5120
      decide
  · have := he i
    rw [tr3 hg i]
    fin_cases a
    · show (ex g (i 0).val + 1) * 1 ≤ 16; omega
    · show (0 + 1) * 1 ≤ 1; omega
    · show (0 + 1) * 5120 ≤ 5120; omega
  · have := hb i
    rw [tr4 hg i]
    fin_cases a
    · show (Sched.blk g (i 0).val + 1) * 256 ≤ 32768; omega
    · show (0 + 1) * 5120 ≤ 5120; omega
  · refine (Rect.packedRows_of_rowAxis _ _ (le_refl 2) ?_ ?_ rfl).wholeWords
    · show 2 ∣ cc0_transform_4 Facts₀.k0_off1_inb Facts₀.numel1_S1 (tbl m) i 0 * 256
      exact Dvd.dvd.mul_left (by decide) _
    · show 2 ∣ 256
      decide

/-- The expert the body reads is one of the sixteen. -/
theorem chk : Chk m := by
  intro t _ a
  have he := (ex_spec g hg.sum (grid0.coords t 0).val).1
  rw [wExp hg]
  fin_cases a
  show (BitVec.ofNat 32 (ex g (grid0.coords t 0).val)).toNat + 1 ≤ 16
  rw [ofNat_toNat (by omega)]; omega

/-- The body computes at the visits alone. -/
theorem live_iff (t : Fin grid0.N) : Live m t ↔ t.val < tot g := by
  have h1 := tot_le g hg.sum
  have ht := point_lt t
  have e : Live m t ↔ k0_cond1 (grid0.coords t) (BitVec.ofNat 32 (tot g)) = 1#1 :=
    iff_of_eq (congrArg (fun v => k0_cond1 (grid0.coords t) v = 1#1) (wTot hg))
  rw [e, cond1_iff, coords_val]
  exact cmpi_slt_ofNat_eq_one_iff (w := 32) (by omega) (by omega)

end Cert.KernelIdeal.Run
-- ==== Proof.Frames.lean ====
/- The frame claims: each program runs to its end, leaves its arguments as they were, and its semaphores read zero again. -/
module

public import proofs.«01_k».proof.Defs
public import proofs.«01_k».proof.Proof.Pre
public import proofs.«01_k».proof.Proof.P.Ok
public import proofs.«01_k».proof.Proof.PI.Ok
public import proofs.«01_k».proof.Proof.Gen.ReferenceIdeal.Frame
public import proofs.«01_k».proof.Proof.Gen.Pre_groups_partition_rows

@[expose] public section

set_option maxRecDepth 16384

noncomputable section

namespace Cert.Proof

open Idealize.ShloMosaic Idealize.ShloMosaic.TcCoe

/-- The precondition makes the kernel's group sizes a partition of the rows. -/
theorem groups_P (m : (ℓ : Loc Cert.Kernel.nD Cert.Kernel.τ Cert.Kernel.sig) → Buf (Elt Bits) ℓ)
    (h : Cert.Pre_Kernel (hPre_groups_partition_rows := Cert.Pre_groups_partition_rows.Gen.facts) m) :
    Cert.Kernel.Run.Groups m (Cert.Sched.sizes (m (((0 : Dev Cert.Kernel.nD) : Thread Cert.Kernel.nD Cert.Kernel.τ).loc Cert.Kernel.main_arg1))) where
  arg i := (congrFun (Cert.Kernel.Run.V_main_arg1 m 0) _).trans (Cert.Sched.sizes_word _ i)
  sum := Cert.Sched.sizes_sum _ _ _ _ _ (h 0)

/-- The precondition makes the idealized kernel's group sizes a partition of the rows. -/
theorem groups_PI (m : (ℓ : Loc Cert.KernelIdeal.nD Cert.KernelIdeal.τ Cert.KernelIdeal.sig) → Buf (Elt Ideal) ℓ)
    (h : Cert.Pre_KernelIdeal (hPre_groups_partition_rows := Cert.Pre_groups_partition_rows.Gen.facts) m) :
    Cert.KernelIdeal.Run.Groups m (Cert.Sched.sizes (m (((0 : Dev Cert.KernelIdeal.nD) : Thread Cert.KernelIdeal.nD Cert.KernelIdeal.τ).loc Cert.KernelIdeal.main_arg1))) where
  arg i := (congrFun (Cert.KernelIdeal.Run.V_main_arg1 m 0) _).trans (Cert.Sched.sizes_word _ i)
  sum := Cert.Sched.sizes_sum _ _ _ _ _ (h 0)

/-- The kernel runs and keeps its arguments. -/
theorem frame_P : Cert.quiescent_Kernel (hKernel := Cert.Kernel.Gen.facts) (hPre_groups_partition_rows := Cert.Pre_groups_partition_rows.Gen.facts) := by
  intro m g h
  exact Cert.Kernel.Run.frame_run m g (Cert.Kernel.Run.ok (groups_P m h)) (Cert.Kernel.Run.chk (groups_P m h))

/-- The idealized kernel runs and keeps its arguments. -/
theorem frame_PI : Cert.quiescent_KernelIdeal (hKernelIdeal := Cert.KernelIdeal.Gen.facts) (hPre_groups_partition_rows := Cert.Pre_groups_partition_rows.Gen.facts) := by
  intro m g h
  exact Cert.KernelIdeal.Run.frame_run m g (Cert.KernelIdeal.Run.ok (groups_PI m h)) (Cert.KernelIdeal.Run.chk (groups_PI m h))

/-- The reference runs and keeps its arguments. -/
theorem frame_RI : Cert.quiescent_ReferenceIdeal (hReferenceIdeal := Cert.ReferenceIdeal.Gen.facts) (hPre_groups_partition_rows := Cert.Pre_groups_partition_rows.Gen.facts) := by
  intro m g _
  exact Cert.ReferenceIdeal.Gen.frame m g

end Cert.Proof
-- ==== Proof.Val.lean ====
/- The value both programs compute, as one expression of the arguments: the row's quantised activations times the weights
   of the row's expert, times the two scales. -/
module

public import proofs.«01_k».proof.Proof.Sched
public import Idealize.ShloMosaic.PureOps.Ideal
public import Idealize.ShloMosaic.PureOps.Ideal.Laws

@[expose] public section

noncomputable section

namespace Cert.Val

open Idealize.ShloMosaic
open scoped BigOperators

/-- An activation divided by its scale and clipped to the largest magnitude of the 8-bit format. -/
def quant (x : Ideal .f32) (s : Ideal .f32) : Ideal .fp8e4m3 :=
  (FloatOps.minimumf (Scalar.ofBits (F := Ideal) .f32 0x43E00000#32)
    (FloatOps.maximumf (Scalar.ofBits (F := Ideal) .f32 0xC3E00000#32) (FloatOps.divf x s)) : Ideal .f32)

/-- One product of quantised activations and weights, started from the zero word. -/
def dot (q w : Fin 4096 → Ideal .fp8e4m3) : Ideal .f32 :=
  (Scalar.ofBits (F := Ideal) .f32 0x00000000#32 : EReal) + ∑ k : Fin 4096, (q k : EReal) * (w k : EReal)

/-- A product times the activation scale and the weight scale. -/
def scaled (d s ws : Ideal .f32) : Ideal .bf16 :=
  (FloatOps.mulf d (FloatOps.mulf s ws : Ideal .f32) : Ideal .f32)

/-- The expert of a row: as many groups as end at or before it. -/
def expert (g : ℕ → ℕ) (r : ℕ) : Fin 16 := Fin.ofNat 16 (Nat.count (fun e => Cert.Sched.pre g (e + 1) ≤ r) 16)

/-- The result at row `r`, column `n`. -/
def out (g : ℕ → ℕ) (x : Fin 32768 → Fin 4096 → Ideal .bf16) (xs : Fin 16 → Ideal .f32)
    (w : Fin 16 → Fin 5120 → Fin 4096 → Ideal .fp8e4m3) (ws : Fin 16 → Fin 5120 → Ideal .f32) (r : Fin 32768) (n : Fin 5120) : Ideal .bf16 :=
  scaled (dot (fun k => quant (x r k) (xs (expert g r.val))) (w (expert g r.val) n)) (xs (expert g r.val)) (ws (expert g r.val) n)

end Cert.Val

end
-- ==== Proof.PI.Chunk.lean ====
/- What a visit leaves in the output buffer, element by element: on the rows of the mask the product times the two scales,
   elsewhere the old contents. -/
module

public import proofs.«01_k».proof.Proof.PI.Body
public import proofs.«01_k».proof.Proof.Val
public import Idealize.ShloMosaic.Lib.MatmulPlain
public import Idealize.ShloMosaic.Lib.ValueIdx
public import Idealize.ShloMosaic.Lib.Pipeline.Value
public import Idealize.ShloMosaic.Lib.ValueLayout

@[expose] public section

set_option maxRecDepth 16384

noncomputable section

namespace Cert.KernelIdeal.Run

open Cert.KernelIdeal.Gen
open Idealize.ShloMosaic Idealize.ShloMosaic.TcCoe
open Idealize.ShloMosaic.ValueIdx (ix3)

/-- The quantised rows, element by element. -/
theorem pay3_apply (s : Ideal .f32) (x : Vec Ideal S256x4096 .bf16) (p : Fin 256) (k : Fin 4096) :
    k0_pay3 (F := Ideal) s x (ValueIdx.ix2 p k) = Cert.Val.quant (x (ValueIdx.ix2 p k)) s := by
  unfold k0_pay3
  rw [shapeCast_self]
  rfl

/-- The new values of a chunk, element by element. -/
theorem pay5_apply (s : Ideal .f32) (q : FVec Ideal S256x4096 .fp8e4m3) (w : Vec Ideal S1x512x4096 .fp8e4m3)
    (ws : Vec Ideal S1x1x512 .f32) (p : Fin 256) (n : Fin 512) :
    k0_pay5 (F := Ideal) s q w ws (ValueIdx.ix2 p n)
      = Cert.Val.scaled (Cert.Val.dot (fun k => q (ValueIdx.ix2 p k)) (fun k => w (ix3 0 n k))) s (ws (ix3 0 0 n)) := by
  have h1 := Ideal.matmul_transposedRhs_apply (φ₁ := .fp8e4m3) (φ₂ := .fp8e4m3) (M := 256) (K := 4096) (N := 512) none q
    (shapeCast S512x4096 w shapeCasts_S1x512x4096_S512x4096) (constant S256x512 .f32 0x00000000#32) p n
  have h2 : ∀ k : Fin 4096, shapeCast S512x4096 w shapeCasts_S1x512x4096_S512x4096 (ValueIdx.ix2 n k) = w (ix3 0 n k) :=
    fun k => shapeCast_apply _ _ _ _ (by simp [Shape.rowMajor_val_two, Shape.rowMajor_val_three])
  have h3 : shapeCast S1x512 ws shapeCasts_S1x1x512_S1x512 (ValueIdx.ix2 0 n) = ws (ix3 0 0 n) :=
    shapeCast_apply _ _ _ _ (by simp [Shape.rowMajor_val_two, Shape.rowMajor_val_three])
  simp only [h2] at h1
  have h4 := broadcastTo_apply (mulf (broadcast S1x512 s) (shapeCast S1x512 ws shapeCasts_S1x1x512_S1x512) : FVec Ideal S1x512 .f32)
    broadcasts_S1x512_S256x512 (ValueIdx.ix2 p n) (ValueIdx.ix2 0 n) (by intro a; fin_cases a <;> rfl)
  have h5 : (mulf (broadcast S1x512 s) (shapeCast S1x512 ws shapeCasts_S1x1x512_S1x512) : FVec Ideal S1x512 .f32) (ValueIdx.ix2 0 n)
      = FloatOps.mulf s (ws (ix3 0 0 n)) := congrArg (FloatOps.mulf s) h3
  exact congrArg₂ (fun a b : Ideal .f32 => (FloatOps.mulf a b : Ideal .f32)) h1 (h4.trans h5)

/-- A chunk, element by element. -/
theorem chunk_apply (s : Ideal .f32) (mask : IVec S256x1 1) (q : FVec Ideal S256x4096 .fp8e4m3) (w : Vec Ideal S1x512x4096 .fp8e4m3)
    (ws : Vec Ideal S1x1x512 .f32) (o : Vec Ideal S256x512 .bf16) (p : Fin 256) (n : Fin 512) :
    chunk (F := Ideal) s mask q w ws o (ValueIdx.ix2 p n)
      = if mask (ValueIdx.ix2 p 0) = 1#1 then
          Cert.Val.scaled (Cert.Val.dot (fun k => q (ValueIdx.ix2 p k)) (fun k => w (ix3 0 n k))) s (ws (ix3 0 0 n))
        else o (ValueIdx.ix2 p n) := by
  show k0_pay6 (F := Ideal) mask (k0_pay5 s q w ws) o (ValueIdx.ix2 p n) = _
  unfold k0_pay6
  rw [shapeCast_self, shapeCast_self]
  have h := broadcastTo_apply mask broadcasts_S256x1_S256x512 (ValueIdx.ix2 p n) (ValueIdx.ix2 p 0) (by intro a; fin_cases a <;> rfl)
  show (if broadcastTo S256x512 mask broadcasts_S256x1_S256x512 (ValueIdx.ix2 p n) = 1#1 then _ else _) = _
  rw [h]
  split
  · exact pay5_apply s q w ws p n
  · rfl

/-- What a visit leaves, as one function of the index. -/
def newVal (s : Ideal .f32) (mask : IVec S256x1 1) (q : FVec Ideal S256x4096 .fp8e4m3) (x2 : Vec Ideal S1x5120x4096 .fp8e4m3)
    (x3 : Vec Ideal S1x1x5120 .f32) (y : Vec Ideal S256x5120 .bf16) : Vec Ideal S256x5120 .bf16 := fun j =>
  if mask (ValueIdx.ix2 (j 0) 0) = 1#1 then
    Cert.Val.scaled (Cert.Val.dot (fun k => q (ValueIdx.ix2 (j 0) k)) (fun k => x2 (ix3 0 (j 1) k))) s (x3 (ix3 0 0 (j 1)))
  else y j

/-- Each of the ten pieces is that function on its rectangle. -/
theorem piece_eq (s : Ideal .f32) (mask : IVec S256x1 1) (q : FVec Ideal S256x4096 .fp8e4m3) (x2 : Vec Ideal S1x5120x4096 .fp8e4m3)
    (x3 : Vec Ideal S1x1x5120 .f32) (y : Vec Ideal S256x5120 .bf16) (o : ℕ)
    (h2 : ∀ a, (![0, o, 0] : Fin 3 → ℕ) a + S1x512x4096.size a ≤ S1x5120x4096.size a)
    (h3 : ∀ a, (![0, 0, o] : Fin 3 → ℕ) a + S1x1x512.size a ≤ S1x1x5120.size a)
    (h4 : ∀ a, (![0, o] : Fin 2 → ℕ) a + S256x512.size a ≤ S256x5120.size a) (j : S256x512.Idx) :
    chunk (F := Ideal) s mask q (View.ld x2 (Rect.unit (s := S1x5120x4096) ![0, o, 0] S1x512x4096.size h2))
        (View.ld x3 (Rect.unit (s := S1x1x5120) ![0, 0, o] S1x1x512.size h3))
        (View.ld y (Rect.unit (s := S256x5120) ![0, o] S256x512.size h4)) j
      = newVal s mask q x2 x3 y ((Rect.unit (s := S256x5120) ![0, o] S256x512.size h4).emb j) := by
  obtain ⟨p, n, rfl⟩ : ∃ (p : Fin 256) (n : Fin 512), j = ValueIdx.ix2 p n :=
    ⟨j 0, j 1, funext fun a => by fin_cases a <;> rfl⟩
  rw [chunk_apply]
  have e0 : (Rect.unit (s := S256x5120) ![0, o] S256x512.size h4).emb (ValueIdx.ix2 p n) 0 = p :=
    Fin.ext (by show 0 + 1 * p.val = p.val; omega)
  have e2 : ∀ k : Fin 4096, View.ld x2 (Rect.unit (s := S1x5120x4096) ![0, o, 0] S1x512x4096.size h2) (ix3 0 n k)
      = x2 (ix3 0 ((Rect.unit (s := S256x5120) ![0, o] S256x512.size h4).emb (ValueIdx.ix2 p n) 1) k) := fun k =>
    congrArg x2 (funext fun a => Fin.ext (by
      fin_cases a
      · rfl
      · rfl
      · show 0 + 1 * k.val = k.val; omega))
  have e3 : View.ld x3 (Rect.unit (s := S1x1x5120) ![0, 0, o] S1x1x512.size h3) (ix3 0 0 n)
      = x3 (ix3 0 0 ((Rect.unit (s := S256x5120) ![0, o] S256x512.size h4).emb (ValueIdx.ix2 p n) 1)) :=
    congrArg x3 (funext fun a => Fin.ext (by fin_cases a <;> rfl))
  unfold newVal
  rw [e0, e3]
  simp only [e2]
  rfl

/-- THE BUFFER AFTER A VISIT, element by element. -/
theorem newOutQ_eq (s : Ideal .f32) (mask : IVec S256x1 1) (q : FVec Ideal S256x4096 .fp8e4m3) (x2 : Vec Ideal S1x5120x4096 .fp8e4m3)
    (x3 : Vec Ideal S1x1x5120 .f32) (y : Vec Ideal S256x5120 .bf16) :
    newOutQ (F := Ideal) s mask q x2 x3 y = newVal s mask q x2 x3 y := by
  funext j
  unfold newOutQ
  refine View.canon_apply_of_pieces (newVal s mask q x2 x3 y) _ ?_ j (cover_out _ _ _ _ _ _ _ _ _ _ j)
  simp only [List.forall_mem_cons, List.not_mem_nil, false_imp_iff, implies_true, and_true]
  exact ⟨piece_eq s mask q x2 x3 y 4608 _ _ _, piece_eq s mask q x2 x3 y 4096 _ _ _, piece_eq s mask q x2 x3 y 3584 _ _ _,
    piece_eq s mask q x2 x3 y 3072 _ _ _, piece_eq s mask q x2 x3 y 2560 _ _ _, piece_eq s mask q x2 x3 y 2048 _ _ _,
    piece_eq s mask q x2 x3 y 1536 _ _ _, piece_eq s mask q x2 x3 y 1024 _ _ _, piece_eq s mask q x2 x3 y 512 _ _ _,
    piece_eq s mask q x2 x3 y 0 _ _ _⟩

end Cert.KernelIdeal.Run

end
-- ==== Proof.PI.Leave.lean ====
/- What a visit reads of the arrays, and what it leaves in the output buffer: the result at the rows of the visit, the old
   contents elsewhere. -/
module

public import proofs.«01_k».proof.Proof.PI.Ok
public import proofs.«01_k».proof.Proof.PI.Chunk

@[expose] public section

set_option maxRecDepth 16384

noncomputable section

namespace Cert.KernelIdeal.Run

open Cert.KernelIdeal.Gen Cert.Sched
open Idealize.ShloMosaic Idealize.ShloMosaic.TcCoe

variable {F : FTy → Type} [FloatOps F]
variable {m : (ℓ : Loc nD τ sig) → Buf (Elt F) ℓ} {g : ℕ → ℕ} (hg : Groups m g) (hO : Ok m) (c : Dev nD) (t : Fin (cfgM m hO).N)

/-- The scales' window is the whole vector of scales. -/
theorem iblk0_apply (e : Fin 16) : (iblk m hO c 0 t : Vec F S16 .f32) (ValueIdx.ix1 e) = (V m c main_arg2 : Vec F S16 .f32) (ValueIdx.ix1 e) :=
  congrArg (V m c main_arg2 : Vec F S16 .f32) (funext fun a => Fin.ext (by
    fin_cases a
    show 0 * 16 + 1 * e.val = e.val
    omega))

/-- A row of a block is the block's first row and the row's place in it. -/
theorem at_row {a b n p r : ℕ} (h : a = b) (hr : r = n * b + p) : a * n + 1 * p = r := by
  subst h; rw [hr, Nat.one_mul, Nat.mul_comm]

section Windows

variable (a : (pcfg0 (F := F)).Adm) (u : Fin grid0.N)

/-- The rows' window, read at an element, by the block its index map names. -/
theorem read1 (X : Vec F S32768x4096 .bf16) (p : Fin 256) (k : Fin 4096) (r : Fin 32768) (b : ℕ)
    (h : cc0_transform_1 Facts₀.k0_off1_inb Facts₀.numel1_S1 a.1 (grid0.coords u) = ![b, 0]) (hr : r.val = 256 * b + p.val) :
    ((((cfg0 a).win 1).blk u).view.read (Elt F) X : Vec F S256x4096 .bf16) (ValueIdx.ix2 p k) = X (ValueIdx.ix2 r k) := by
  refine congrArg X (funext fun x => Fin.ext ?_)
  have e0 : cc0_transform_1 Facts₀.k0_off1_inb Facts₀.numel1_S1 a.1 (grid0.coords u) 0 * 256 + 1 * p.val = r.val := at_row (congrFun h 0) hr
  have e1 : cc0_transform_1 Facts₀.k0_off1_inb Facts₀.numel1_S1 a.1 (grid0.coords u) 1 * 4096 + 1 * k.val = k.val := at_row (congrFun h 1) (Nat.zero_add _).symm
  match x with
  | ⟨0, _⟩ => exact e0
  | ⟨1, _⟩ => exact e1

/-- The weights' window, read at an element, by the expert its index map names. -/
theorem read2 (X : Vec F S16x5120x4096 .fp8e4m3) (n : Fin 5120) (k : Fin 4096) (e : Fin 16)
    (h : cc0_transform_2 Facts₀.k0_off1_inb Facts₀.numel1_S1 a.1 (grid0.coords u) = ![e.val, 0, 0]) :
    ((((cfg0 a).win 2).blk u).view.read (Elt F) X : Vec F S1x5120x4096 .fp8e4m3) (ValueIdx.ix3 0 n k) = X (ValueIdx.ix3 e n k) := by
  refine congrArg X (funext fun x => Fin.ext ?_)
  have e0 : cc0_transform_2 Facts₀.k0_off1_inb Facts₀.numel1_S1 a.1 (grid0.coords u) 0 * 1 + 1 * 0 = e.val := at_row (congrFun h 0) (Nat.one_mul _).symm
  have e1 : cc0_transform_2 Facts₀.k0_off1_inb Facts₀.numel1_S1 a.1 (grid0.coords u) 1 * 5120 + 1 * n.val = n.val := at_row (congrFun h 1) (Nat.zero_add _).symm
  have e2 : cc0_transform_2 Facts₀.k0_off1_inb Facts₀.numel1_S1 a.1 (grid0.coords u) 2 * 4096 + 1 * k.val = k.val := at_row (congrFun h 2) (Nat.zero_add _).symm
  match x with
  | ⟨0, _⟩ => exact e0
  | ⟨1, _⟩ => exact e1
  | ⟨2, _⟩ => exact e2

/-- The weight scales' window, read at an element, by the expert its index map names. -/
theorem read3 (X : Vec F S16x1x5120 .f32) (n : Fin 5120) (e : Fin 16)
    (h : cc0_transform_3 Facts₀.k0_off1_inb Facts₀.numel1_S1 a.1 (grid0.coords u) = ![e.val, 0, 0]) :
    ((((cfg0 a).win 3).blk u).view.read (Elt F) X : Vec F S1x1x5120 .f32) (ValueIdx.ix3 0 0 n) = X (ValueIdx.ix3 e 0 n) := by
  refine congrArg X (funext fun x => Fin.ext ?_)
  have e0 : cc0_transform_3 Facts₀.k0_off1_inb Facts₀.numel1_S1 a.1 (grid0.coords u) 0 * 1 + 1 * 0 = e.val := at_row (congrFun h 0) (Nat.one_mul _).symm
  have e1 : cc0_transform_3 Facts₀.k0_off1_inb Facts₀.numel1_S1 a.1 (grid0.coords u) 1 * 1 + 1 * 0 = 0 := at_row (congrFun h 1) (Nat.zero_add _).symm
  have e2 : cc0_transform_3 Facts₀.k0_off1_inb Facts₀.numel1_S1 a.1 (grid0.coords u) 2 * 5120 + 1 * n.val = n.val := at_row (congrFun h 2) (Nat.zero_add _).symm
  match x with
  | ⟨0, _⟩ => exact e0
  | ⟨1, _⟩ => exact e1
  | ⟨2, _⟩ => exact e2

end Windows

include hg in
/-- The rows' window at a point holds the rows of the point's block. -/
theorem iblk1_apply (p : Fin 256) (k : Fin 4096) (r : Fin 32768) (hr : r.val = 256 * Sched.blk g t.val + p.val) :
    (iblk m hO c 1 t : Vec F S256x4096 .bf16) (ValueIdx.ix2 p k) = (V m c main_arg0 : Vec F S32768x4096 .bf16) (ValueIdx.ix2 r k) :=
  read1 (adm m hO) t (V m c main_arg0) p k r _ ((tr1 hg (grid0.coords t)).trans (congrArg (fun v => ![Sched.blk g v, 0]) (coords_val t))) hr

include hg in
/-- The weights' window at a point holds the weights of the point's expert. -/
theorem iblk2_apply (n : Fin 5120) (k : Fin 4096) (e : Fin 16) (he : e.val = ex g t.val) :
    (iblk m hO c 2 t : Vec F S1x5120x4096 .fp8e4m3) (ValueIdx.ix3 0 n k) = (V m c main_arg3 : Vec F S16x5120x4096 .fp8e4m3) (ValueIdx.ix3 e n k) :=
  read2 (adm m hO) t (V m c main_arg3) n k e ((tr2 hg (grid0.coords t)).trans (congrArg (fun v => ![v, 0, 0]) ((congrArg (ex g) (coords_val t)).trans he.symm)))

include hg in
/-- The weight scales' window at a point, as the reshaped array holds them. -/
theorem iblk3_raw (n : Fin 5120) (e : Fin 16) (he : e.val = ex g t.val) :
    (iblk m hO c 3 t : Vec F S1x1x5120 .f32) (ValueIdx.ix3 0 0 n) = (V m c main_v44 : Vec F S16x1x5120 .f32) (ValueIdx.ix3 e 0 n) :=
  read3 (adm m hO) t (V m c main_v44) n e ((tr3 hg (grid0.coords t)).trans (congrArg (fun v => ![v, 0, 0]) ((congrArg (ex g) (coords_val t)).trans he.symm)))

/-- The weight scales reshaped to a row per expert. -/
theorem addUnit_apply (x : Vec F S16x5120 .f32) (e : Fin 16) (n : Fin 5120) :
    shapeCast S16x1x5120 x shapeCasts_S16x5120_S16x1x5120 (ValueIdx.ix3 e 0 n) = x (ValueIdx.ix2 e n) :=
  shapeCast_apply _ _ _ _ (by simp [Shape.rowMajor_val_two, Shape.rowMajor_val_three])

include hg in
/-- The weight scales' window at a point holds the weight scales of the point's expert. -/
theorem iblk3_apply (n : Fin 5120) (e : Fin 16) (he : e.val = ex g t.val) :
    (iblk m hO c 3 t : Vec F S1x1x5120 .f32) (ValueIdx.ix3 0 0 n) = (V m c main_arg4 : Vec F S16x5120 .f32) (ValueIdx.ix2 e n) :=
  (iblk3_raw hg hO c t n e he).trans ((congrFun (V_v44 m c) _).trans (addUnit_apply _ e n))

/-- The rows of a visit, as the body's mask: block row `p` is in it when its row lies between the expert's two bounds. -/
theorem mask_apply (bl st en : ℕ) (hb : bl < 128) (hs : st ≤ 32768) (he : en ≤ 32768) (p : Fin 256) :
    k0_pay4 (F := F) (BitVec.ofNat 32 bl) (BitVec.ofNat 32 st) (BitVec.ofNat 32 en) (ValueIdx.ix2 p 0) = 1#1
      ↔ st ≤ 256 * bl + p.val ∧ 256 * bl + p.val < en := by
  have hp := p.isLt
  have hw : addi (broadcast S256x1 (Scalar.muli (BitVec.ofNat 32 bl) 256#32)) (iota .tc S256x1 32 [0] iota_S256x1_d0_w32) (ValueIdx.ix2 p 0) = BitVec.ofNat 32 (256 * bl + p.val) := by
    show IntOp.addi (IntOp.muli (BitVec.ofNat 32 bl) (BitVec.ofNat 32 256)) (iota .tc S256x1 32 [0] iota_S256x1_d0_w32 (ValueIdx.ix2 p 0)) = _
    rw [iota_single_apply, WordCmp.muli_ofNat]
    refine (WordCmp.addi_ofNat _ _).trans (congrArg (BitVec.ofNat 32) ?_)
    show bl * 256 + p.val = _
    omega
  have h1 : k0_pay4 (F := F) (BitVec.ofNat 32 bl) (BitVec.ofNat 32 st) (BitVec.ofNat 32 en) (ValueIdx.ix2 p 0)
      = IntOp.andi (IntOp.cmpi .sge (BitVec.ofNat 32 (256 * bl + p.val)) (BitVec.ofNat 32 st)) (IntOp.cmpi .slt (BitVec.ofNat 32 (256 * bl + p.val)) (BitVec.ofNat 32 en)) := by
    rw [← hw]
    unfold k0_pay4
    rfl
  rw [h1, WordCmp.cmpi_sge_ofNat (w := 32) (by omega) (by omega), WordCmp.cmpi_slt_ofNat (w := 32) (by omega) (by omega),
    WordCmp.andi_ofBool, WordCmp.ofBool_eq_one_iff, Bool.and_eq_true, decide_eq_true_iff, decide_eq_true_iff]

end Cert.KernelIdeal.Run

namespace Cert.KernelIdeal.Run

open Cert.KernelIdeal.Gen Cert.Sched
open Idealize.ShloMosaic Idealize.ShloMosaic.TcCoe

variable {m : (ℓ : Loc nD τ sig) → Buf (Elt Ideal) ℓ} {g : ℕ → ℕ}

/-- The result at row `r`, column `n`, of the arrays as the region finds them. -/
def res (m : (ℓ : Loc nD τ sig) → Buf (Elt Ideal) ℓ) (g : ℕ → ℕ) (c : Dev nD) (r : Fin 32768) (n : Fin 5120) : Ideal .bf16 :=
  Cert.Val.out g (fun r k => (V m c main_arg0 : Vec Ideal S32768x4096 .bf16) (ValueIdx.ix2 r k)) (fun e => (V m c main_arg2 : Vec Ideal S16 .f32) (ValueIdx.ix1 e))
    (fun e n k => (V m c main_arg3 : Vec Ideal S16x5120x4096 .fp8e4m3) (ValueIdx.ix3 e n k)) (fun e n => (V m c main_arg4 : Vec Ideal S16x5120 .f32) (ValueIdx.ix2 e n)) r n

/-- The scale a visit reads is its expert's. -/
theorem sca (hg : Groups m g) (hO : Ok m) (c : Dev nD) (t : Fin (cfgM m hO).N) (e : Fin 16) (he : e.val = ex g t.val) (h) :
    scaW (F := Ideal) (expW (F := Ideal) 0 (grid0.coords t) (tbl m 1)) h (iblk m hO c 0 t) = (V m c main_arg2 : Vec Ideal S16 .f32) (ValueIdx.ix1 e) := by
  refine Eq.trans ?_ (iblk0_apply hO c t e)
  refine congrArg (iblk m hO c 0 t : Vec Ideal S16 .f32) (emb1 (n := 16) _ _ _ e ?_)
  show (expW (F := Ideal) 0 (grid0.coords t) (tbl m 1)).toNat = e.val
  rw [wExp hg, coords_val, ← he]
  exact ofNat_toNat (by omega)

/-- THE VISIT: on its rows the result, elsewhere the old contents. -/
theorem leave_apply (hg : Groups m g) (hO : Ok m) (hK : Chk m) (c : Dev nD) (t : Fin (cfgM m hO).N) (hc : Live m t) (Y : Vec Ideal S256x5120 .bf16)
    (p : Fin 256) (n : Fin 5120) (r : Fin 32768) (hr : r.val = 256 * Sched.blk g t.val + p.val) :
    leave m hO hK c t hc Y (ValueIdx.ix2 p n) = if lo g t.val ≤ r.val ∧ r.val < hi g t.val then res m g c r n else Y (ValueIdx.ix2 p n) := by
  have hx := ex_spec g hg.sum t.val
  have hb := blk_lt g hg.sum t.val
  have hp := p.isLt
  obtain ⟨e, he⟩ : ∃ e : Fin 16, e.val = ex g t.val := ⟨⟨_, hx.1⟩, rfl⟩
  have hw : expW (F := Ideal) 0 (grid0.coords t) (tbl m 1) = BitVec.ofNat 32 e.val := by rw [wExp hg, coords_val, he]
  have hbl : blkW (F := Ideal) 0 (grid0.coords t) (tbl m 0) = BitVec.ofNat 32 (Sched.blk g t.val) := by rw [wBlk hg, coords_val]
  unfold leave
  rw [sca hg hO c t e he, hbl, wSta hg _ _ e hw, wEnd hg _ _ e hw]
  refine (congrFun (newOutQ_eq _ _ _ _ _ _) _).trans ?_
  have hm := mask_apply (F := Ideal) (Sched.blk g t.val) (pre g e.val) (pre g (e.val + 1)) hb (hg.le (by omega)) (hg.le (by omega)) p
  have hlo : lo g t.val = max (pre g e.val) (256 * Sched.blk g t.val) := by rw [he]; rfl
  have hhi : hi g t.val = min (pre g (e.val + 1)) (256 * (Sched.blk g t.val + 1)) := by rw [he]; rfl
  have hin : (lo g t.val ≤ r.val ∧ r.val < hi g t.val) ↔ (pre g e.val ≤ 256 * Sched.blk g t.val + p.val ∧ 256 * Sched.blk g t.val + p.val < pre g (e.val + 1)) := by
    rw [hlo, hhi, hr]; omega
  unfold newVal
  by_cases h : lo g t.val ≤ r.val ∧ r.val < hi g t.val
  · rw [if_pos h, if_pos (hm.2 (hin.1 h))]
    have hE : Cert.Val.expert g r.val = e := by
      unfold Cert.Val.expert
      rw [count_row g hg.sum t.val r.val h.1 h.2, ← he]
      exact Fin.ext (Nat.mod_eq_of_lt e.isLt)
    unfold res Cert.Val.out
    rw [hE]
    have hz : (![0, 0] : Fin 2 → ℕ) = fun _ => 0 := funext fun a => by fin_cases a <;> rfl
    have e1 : ∀ k : Fin 4096, k0_pay3 (F := Ideal) ((V m c main_arg2 : Vec Ideal S16 .f32) (ValueIdx.ix1 e))
        (View.ld (Val := Elt Ideal) (S := S256x4096) (e' := .bf16) (iblk m hO c 1 t) (Rect.unit (s := S256x4096) ![0, 0] S256x4096.size inb_S256x4096_S256x4096_0_0)) (ValueIdx.ix2 p k)
        = Cert.Val.quant ((V m c main_arg0 : Vec Ideal S32768x4096 .bf16) (ValueIdx.ix2 r k)) ((V m c main_arg2 : Vec Ideal S16 .f32) (ValueIdx.ix1 e)) := by
      intro k
      refine (pay3_apply _ _ p k).trans ?_
      refine (congrArg (fun x : Vec Ideal S256x4096 .bf16 => Cert.Val.quant (x (ValueIdx.ix2 p k)) ((V m c main_arg2 : Vec Ideal S16 .f32) (ValueIdx.ix1 e))) (View.ld_unit_zero hz _ _)).trans ?_
      exact congrArg (fun x : Ideal .bf16 => Cert.Val.quant x _) (iblk1_apply hg hO c t p k r hr)
    exact congr (congrArg₂ Cert.Val.scaled (congrArg₂ Cert.Val.dot (funext e1) (funext fun k => iblk2_apply hg hO c t n k e he)) rfl)
      (iblk3_apply hg hO c t n e he)
  · rw [if_neg h, if_neg (fun h' => h (hin.2 (hm.1 h')))]

end Cert.KernelIdeal.Run

end
-- ==== Proof.PI.Inv.lean ====
/- The output buffer along the visits and the output array at the end: a visit leaves its block right up to its last row, a
   block is written back when its last row is right, and every block is written back. -/
module

public import proofs.«01_k».proof.Proof.PI.Leave

@[expose] public section

set_option maxRecDepth 16384

noncomputable section

namespace Cert.KernelIdeal.Run

open Cert.KernelIdeal.Gen Cert.Sched
open Idealize.ShloMosaic Idealize.ShloMosaic.TcCoe

/-! ## The output window -/

section Window

variable {F : FTy → Type} [FloatOps F]
variable (a : (pcfg0 (F := F)).Adm) (u : Fin grid0.N)

/-- The output window fetches nothing. -/
theorem fetch4 : ((cfg0 a).win 4).fetch u = false := rfl

/-- The block the output window is at. -/
theorem index4 : ((cfg0 a).win 4).index u = cc0_transform_4 Facts₀.k0_off1_inb Facts₀.numel1_S1 a.1 (grid0.coords u) := rfl

/-- The output window writes its block back at the last point and where the next point is at another block. -/
theorem flush4 (b : ℕ → ℕ) (h : ∀ v : Fin grid0.N, cc0_transform_4 Facts₀.k0_off1_inb Facts₀.numel1_S1 a.1 (grid0.coords v) = ![b v.val, 0]) :
    ((cfg0 a).win 4).flush u = true ↔ u.val = 143 ∨ b (u.val + 1) ≠ b u.val := by
  have hN : grid0.N = 144 := rfl
  have hu : u.val < 144 := u.isLt
  have h1 : ((cfg0 a).win 4).flush u = (true && (decide (u.val + 1 = grid0.N) || decide (∃ h : u.val + 1 < grid0.N, ((cfg0 a).win 4).index ⟨u.val + 1, h⟩ ≠ ((cfg0 a).win 4).index u))) := rfl
  rw [h1, Bool.true_and, Bool.or_eq_true, decide_eq_true_iff, decide_eq_true_iff]
  have h2 : ∀ hv : u.val + 1 < 144, (((cfg0 a).win 4).index ⟨u.val + 1, hv⟩ ≠ ((cfg0 a).win 4).index u ↔ b (u.val + 1) ≠ b u.val) := by
    intro hv
    have e1 : ((cfg0 a).win 4).index ⟨u.val + 1, hv⟩ = ![b (u.val + 1), 0] := h ⟨u.val + 1, hv⟩
    have e2 : ((cfg0 a).win 4).index u = ![b u.val, 0] := h u
    rw [e1, e2]
    exact not_congr ⟨fun e => congrFun e 0, fun e => by rw [e]⟩
  constructor
  · rintro (h | ⟨hv, h⟩)
    · exact Or.inl (by omega)
    · exact Or.inr ((h2 hv).1 h)
  · rintro (h | h)
    · exact Or.inl (by omega)
    · rcases Nat.lt_or_ge (u.val + 1) 144 with hv | hv
      · exact Or.inr ⟨hv, (h2 hv).2 h⟩
      · exact Or.inl (by omega)

/-- Where an element of the output window's block lies in the array. -/
theorem emb4 (b : ℕ) (h : cc0_transform_4 Facts₀.k0_off1_inb Facts₀.numel1_S1 a.1 (grid0.coords u) = ![b, 0]) (p : Fin 256) (n : Fin 5120) (r : Fin 32768)
    (hr : r.val = 256 * b + p.val) : (((cfg0 a).win 4).blk u).view.emb (ValueIdx.ix2 p n : S256x5120.Idx) = (ValueIdx.ix2 r n : S32768x5120.Idx) := by
  refine funext fun x => Fin.ext ?_
  have e0 : cc0_transform_4 Facts₀.k0_off1_inb Facts₀.numel1_S1 a.1 (grid0.coords u) 0 * 256 + 1 * p.val = r.val := at_row (congrFun h 0) hr
  have e1 : cc0_transform_4 Facts₀.k0_off1_inb Facts₀.numel1_S1 a.1 (grid0.coords u) 1 * 5120 + 1 * n.val = n.val := at_row (congrFun h 1) (Nat.zero_add _).symm
  match x with
  | ⟨0, _⟩ => exact e0
  | ⟨1, _⟩ => exact e1

/-- The array after a write-back, at a row of the block: the buffer's. -/
theorem write4_in (b : ℕ) (h : cc0_transform_4 Facts₀.k0_off1_inb Facts₀.numel1_S1 a.1 (grid0.coords u) = ![b, 0]) (G : Vec F S32768x5120 .bf16) (X : Vec F S256x5120 .bf16)
    (p : Fin 256) (n : Fin 5120) (r : Fin 32768) (hr : r.val = 256 * b + p.val) :
    ((((cfg0 a).win 4).blk u).view.write (Elt F) G (((cfg0 a).win 4).cut (grid0.coords u) X) Finset.univ : Vec F S32768x5120 .bf16) (ValueIdx.ix2 r n) = X (ValueIdx.ix2 p n) := by
  have h1 := (((cfg0 a).win 4).blk u).view.write_emb_of_mem (Val := Elt F) G (((cfg0 a).win 4).cut (grid0.coords u) X) (M := Finset.univ) (x := (ValueIdx.ix2 p n : S256x5120.Idx)) (Finset.mem_univ _)
  exact (congrArg _ (emb4 a u b h p n r hr).symm).trans h1

/-- And at a row of another block: what it was. -/
theorem write4_out (b : ℕ) (h : cc0_transform_4 Facts₀.k0_off1_inb Facts₀.numel1_S1 a.1 (grid0.coords u) = ![b, 0]) (hb : b < 128) (G : Vec F S32768x5120 .bf16) (X : Vec F S256x5120 .bf16)
    (n : Fin 5120) (r : Fin 32768) (hr : r.val / 256 ≠ b) :
    ((((cfg0 a).win 4).blk u).view.write (Elt F) G (((cfg0 a).win 4).cut (grid0.coords u) X) Finset.univ : Vec F S32768x5120 .bf16) (ValueIdx.ix2 r n) = G (ValueIdx.ix2 r n) := by
  refine (((cfg0 a).win 4).blk u).view.write_of_not_mem (Val := Elt F) G (((cfg0 a).win 4).cut (grid0.coords u) X) Finset.univ (i := (ValueIdx.ix2 r n : S32768x5120.Idx)) ?_
  intro hm
  obtain ⟨j', -, hj'⟩ := Finset.mem_map.1 hm
  obtain ⟨j, hj⟩ : ∃ j : S256x5120.Idx, (((cfg0 a).win 4).blk u).view.emb j = (ValueIdx.ix2 r n : S32768x5120.Idx) := ⟨j', hj'⟩
  obtain ⟨p, q, rfl⟩ : ∃ (p : Fin 256) (q : Fin 5120), j = ValueIdx.ix2 p q := ⟨j 0, j 1, funext fun x => match x with
    | ⟨0, _⟩ => rfl
    | ⟨1, _⟩ => rfl⟩
  have hp := p.isLt
  have hq := emb4 a u b h p q ⟨256 * b + p.val, by omega⟩ rfl
  have h0 : (⟨256 * b + p.val, by omega⟩ : Fin 32768) = r := congrFun (hq.symm.trans hj) 0
  exact hr (by rw [← h0]; show (256 * b + p.val) / 256 = b; omega)

end Window

/-! ## The buffer along the points -/

variable {m : (ℓ : Loc nD τ sig) → Buf (Elt Ideal) ℓ} {g : ℕ → ℕ}

/-- The output window's block at a point. -/
theorem trBlk (hg : Groups m g) (hO : Ok m) (v : Fin grid0.N) :
    cc0_transform_4 Facts₀.k0_off1_inb Facts₀.numel1_S1 (adm m hO).1 (grid0.coords v) = ![Sched.blk g v.val, 0] :=
  (tr4 hg (grid0.coords v)).trans (congrArg (fun x => ![Sched.blk g x, 0]) (coords_val v))

/-- A buffer of block `b` that is right at every row below `l`. -/
def Right (m : (ℓ : Loc nD τ sig) → Buf (Elt Ideal) ℓ) (g : ℕ → ℕ) (c : Dev nD) (b l : ℕ) (X : Vec Ideal S256x5120 .bf16) : Prop :=
  ∀ (p : Fin 256) (n : Fin 5120) (r : Fin 32768), r.val = 256 * b + p.val → r.val < l → X (ValueIdx.ix2 p n) = res m g c r n

/-- A visit to a buffer right below its first row leaves it right below its last. -/
theorem right_live (hg : Groups m g) (hO : Ok m) (hK : Chk m) (c : Dev nD) (t : Fin (cfgM m hO).N) (ht : t.val < tot g) (Y X : Vec Ideal S256x5120 .bf16)
    (hS : Step m hO hK c t Y X) (hY : Right m g c (Sched.blk g t.val) (lo g t.val) Y) : Right m g c (Sched.blk g t.val) (hi g t.val) X := by
  intro p n r hr hl
  have hc : Live m t := (live_iff hg t).2 ht
  rw [hS.1 hc]
  refine (leave_apply hg hO hK c t hc Y p n r hr).trans ?_
  by_cases h : lo g t.val ≤ r.val
  · rw [if_pos ⟨h, hl⟩]
  · rw [if_neg (fun h' => h h'.1)]
    exact hY p n r hr (by omega)

/-- An idle point leaves the buffer as it is. -/
theorem right_idle (hg : Groups m g) (hO : Ok m) (hK : Chk m) (c : Dev nD) (t : Fin (cfgM m hO).N) (ht : ¬ t.val < tot g) (Y X : Vec Ideal S256x5120 .bf16)
    (hS : Step m hO hK c t Y X) (l : ℕ) (hY : Right m g c (Sched.blk g t.val) l Y) : Right m g c (Sched.blk g t.val) l X := by
  rw [hS.2 (fun h => ht ((live_iff hg t).1 h))]
  exact hY

/-- THE INVARIANT: after any point the buffer is right up to the last row of the point's visit. -/
theorem leaves_right (hg : Groups m g) (hO : Ok m) (hK : Chk m) (c : Dev nD) : ∀ (k : ℕ) (hk : k < (cfgM m hO).N) (X : Vec Ideal S256x5120 .bf16),
    (rdat m hO hK c).Leaves 4 ⟨k, hk⟩ X → Right m g c (Sched.blk g k) (hi g k) X := by
  intro k
  induction k with
  | zero =>
    intro hk X hX
    obtain ⟨Y, -, hA⟩ := hX
    have hS : Step m hO hK c ⟨0, hk⟩ Y X := (congrFun (congrFun (congrFun (rafter0_4 m hO hK c) _) Y) X).mp hA
    have h0 := lo_zero g hg.sum
    exact right_live hg hO hK c ⟨0, hk⟩ (tot_pos g hg.sum) Y X hS (fun p n r _ hl => absurd hl (by show ¬ r.val < lo g 0; omega))
  | succ k ih =>
    intro hk X hX
    obtain ⟨Y, hF, hA⟩ := hX
    have hS : Step m hO hK c ⟨k + 1, hk⟩ Y X := (congrFun (congrFun (congrFun (rafter0_4 m hO hK c) _) Y) X).mp hA
    have hk' : k < (cfgM m hO).N := Nat.lt_of_succ_lt hk
    have hk2 : k + 1 < 144 := hk
    have hF' := ((rdat m hO hK c).finds_of_pos (w := 4) (t := ⟨k + 1, hk⟩) (fetch4 (adm m hO) ⟨k + 1, hk⟩) (Nat.succ_ne_zero k) Y).1 hF
    have hF2 : Sched.blk g (k + 1) ≠ Sched.blk g k ∨ Right m g c (Sched.blk g k) (hi g k) Y := by
      rcases hF' with h | h
      · left
        rcases (flush4 (adm m hO) ⟨k, hk'⟩ (Sched.blk g) (trBlk hg hO)).1 h with h' | h'
        · have : k = 143 := h'
          omega
        · exact h'
      · exact Or.inr (ih hk' Y h)
    by_cases ht : k + 1 < tot g
    · refine right_live hg hO hK c ⟨k + 1, hk⟩ ht Y X hS ?_
      have hs := step g hg.sum k ht
      intro p n r hr hl
      have hr' : r.val = 256 * Sched.blk g (k + 1) + p.val := hr
      have hl' : r.val < lo g (k + 1) := hl
      rcases hs.2 with hb | hb
      · rcases hF2 with h | h
        · exact absurd hb h
        · exact h p n r (by omega) (by omega)
      · omega
    · have hs := idle g hg.sum k (by omega)
      refine right_idle hg hO hK c ⟨k + 1, hk⟩ ht Y X hS (hi g (k + 1)) ?_
      rcases hF2 with h | h
      · exact absurd hs.2.1 h
      · show Right m g c (Sched.blk g (k + 1)) (hi g (k + 1)) Y
        rw [hs.2.1, hs.2.2]
        exact h

/-! ## The output array -/

/-- The array after the write-backs of the points below `k` is right at every block written back. -/
theorem arr_right (hg : Groups m g) (hO : Ok m) (hK : Chk m) (c : Dev nD) : ∀ (k : ℕ) (hk : k ≤ (cfgM m hO).N) (G : Vec Ideal S32768x5120 .bf16),
    (rdat m hO hK c).ArrAt 4 k G → ∀ u < k, (u = 143 ∨ Sched.blk g (u + 1) ≠ Sched.blk g u) →
      ∀ (r : Fin 32768) (n : Fin 5120), r.val / 256 = Sched.blk g u → G (ValueIdx.ix2 r n) = res m g c r n := by
  intro k
  induction k with
  | zero => exact fun _ _ _ u hu => absurd hu (Nat.not_lt_zero u)
  | succ k ih =>
    intro hk G hG u hu hf r n hr
    have hk' : k < (cfgM m hO).N := hk
    have hfl := flush4 (adm m hO) ⟨k, hk'⟩ (Sched.blk g) (trBlk hg hO)
    have hG' : (if ((cfgM m hO).win 4).flush ⟨k, hk'⟩ then (rdat m hO hK c).ArrStep 4 ⟨k, hk'⟩ ((rdat m hO hK c).ArrAt 4 k) else (rdat m hO hK c).ArrAt 4 k) G := by
      have h := hG
      unfold Pipeline.RDat.ArrAt at h
      dsimp only at h
      rw [dif_pos hk'] at h
      exact h
    by_cases hc : ((cfgM m hO).win 4).flush ⟨k, hk'⟩ = true
    · rw [if_pos hc] at hG'
      obtain ⟨G₀, X, h0, hX, rfl⟩ := hG'
      by_cases hb : r.val / 256 = Sched.blk g k
      · have hX' := leaves_right hg hO hK c k hk' X hX
        have hfin := finished g hg.sum k (hfl.1 hc)
        refine (write4_in (adm m hO) ⟨k, hk'⟩ (Sched.blk g k) (trBlk hg hO _) G₀ X ⟨r.val % 256, Nat.mod_lt _ (by norm_num)⟩ n r (by show r.val = 256 * Sched.blk g k + r.val % 256; omega)).trans ?_
        exact hX' _ n r (by show r.val = 256 * Sched.blk g k + r.val % 256; omega) (by omega)
      · refine (write4_out (adm m hO) ⟨k, hk'⟩ (Sched.blk g k) (trBlk hg hO _) (blk_lt g hg.sum k) G₀ X n r hb).trans ?_
        have huk : u < k := by
          rcases Nat.lt_or_ge u k with h | h
          · exact h
          · have : u = k := by omega
            subst this
            exact absurd hr hb
        exact ih (Nat.le_of_lt hk') G₀ h0 u huk hf r n hr
    · rw [if_neg hc] at hG'
      have huk : u < k := by
        rcases Nat.lt_or_ge u k with h | h
        · exact h
        · have : u = k := by omega
          subst this
          exact absurd (hfl.2 hf) hc
      exact ih (Nat.le_of_lt hk') G hG' u huk hf r n hr

/-- THE KERNEL'S RESULT: every element of the output array at the end is the grouped projection's. -/
theorem arr_final (hg : Groups m g) (hO : Ok m) (hK : Chk m) (c : Dev nD) (G : Vec Ideal S32768x5120 .bf16) (hG : (rdat m hO hK c).ArrAt 4 (cfgM m hO).N G)
    (r : Fin 32768) (n : Fin 5120) : G (ValueIdx.ix2 r n) = res m g c r n := by
  have hr := r.isLt
  obtain ⟨t, ht, hb, hl⟩ := last_of_block g hg.sum (r.val / 256) (by omega)
  exact arr_right hg hO hK c (cfgM m hO).N (Nat.le_refl _) G hG t ht (by rw [hb]; exact hl) r n hb.symm

end Cert.KernelIdeal.Run

end
-- ==== Proof.Ref.Words.lean ====
/- What the reference's host operations leave in the arrays its one region reads: every row's expert, and the two scales of
   that expert. -/
module

public import proofs.«01_k».proof.Proof.Gen.ReferenceIdeal.Frame
public import proofs.«01_k».proof.Proof.Val
public import Idealize.ShloMosaic.Lib.Routing.OpsSearch
public import Idealize.ShloMosaic.Lib.StableHlo.ReadAt

@[expose] public section

set_option maxRecDepth 16384

noncomputable section

namespace Cert.ReferenceIdeal.Run

open Cert.ReferenceIdeal.Gen Cert.Sched
open Idealize.ShloMosaic Idealize.ShloMosaic.TcCoe Idealize.ShloMosaic.Tactic Idealize.ShloMosaic.Routing Idealize.ShloMosaic.WordCmp

variable {F : FTy → Type} [FloatOps F]
variable (m : (ℓ : Loc nD τ sig) → Buf (Elt F) ℓ)

/-! ## The host operations -/

/-- The group ends: the running sums of the group sizes. -/
theorem V_v0 (c : Dev nD) : V m c main_v0 = Host.reduceWindow IntOp.addi ![16] ![1] ![15] ![0] (V m c main_arg1 : IVec S16 32)
    (broadcastInDim S_ ![] bcast_S_S_ (constantI S_ 32 0#32)) reduceWindows_S16_S16_w16s1p15_0 h_S_ := by
  unfold V
  after_reads_simp
  simp -implicitDefEqProofs only [StableHlo.TRef.toBuf, StableHlo.TRef.ofBuf, cast_cast, cast_eq, id]

/-- The expert of each row: the number of group ends it has reached. -/
theorem V_v8 (c : Dev nD) : V m c main_v8 = Host.reduce IntOp.addi (extui 32 (cmpi .sge
      (broadcastInDim S32768x16 ![0, 1] bcast_S32768x1_S32768x16_0_1 (broadcastInDim S32768x1 ![0] bcast_S32768_S32768x1_0 (iotaInDim S32768 32 0)))
      (broadcastInDim S32768x16 ![0, 1] bcast_S1x16_S32768x16_0_1 (broadcastInDim S1x16 ![1] bcast_S16_S1x16_1 (V m c main_v0 : IVec S16 32)))) natLt_1_32)
    (constantI S_ 32 0#32) reducesTo_S32768x16_S32768_d1 h_S_ := by
  unfold V
  after_reads_simp

/-- The experts' words as jnp wraps them before a take. -/
abbrev wrapped (x : IVec S32768 32) : IVec S32768x1 32 := broadcastInDim S32768x1 ![0] bcast_S32768_S32768x1_0
  (select (cmpi .slt x (broadcastInDim S32768 ![] bcast_S_S32768 (constantI S_ 32 0#32))) (addi x (broadcastInDim S32768 ![] bcast_S_S32768 (constantI S_ 32 16#32))) x)

/-- The experts as a column. -/
theorem V_v16 (c : Dev nD) : V m c main_v16 = broadcastInDim S32768x1 ![0] bcast_S32768_S32768x1_0 (V m c main_v8 : IVec S32768 32) := by
  unfold V
  after_reads_simp

/-- The activation scales of the rows as a column. -/
theorem V_v17 (c : Dev nD) : V m c main_v17 = broadcastInDim S32768x1 ![0] bcast_S32768_S32768x1_0
    (Host.gather gather_S16_S32768x1_S32768_n_0_n_n_0_1_1 (V m c main_arg2 : FVec F S16 .f32) (wrapped (V m c main_v8 : IVec S32768 32))) := by
  unfold V wrapped
  after_reads_simp

/-- The weight scales of the rows. -/
theorem V_v24 (c : Dev nD) : V m c main_v24 = Host.gather gather_S16x5120_S32768x1_S32768x5120_1_0_n_n_0_1_15120 (V m c main_arg4 : FVec F S16x5120 .f32) (wrapped (V m c main_v8 : IVec S32768 32)) := by
  unfold V wrapped
  after_reads_simp

/-! ## At a row -/

/-- The group sizes in memory are the naturals `g`, and they partition the 32768 rows. -/
structure Groups (c : Dev nD) (g : ℕ → ℕ) : Prop where
  arg : ∀ i : Fin 16, (V m c main_arg1 : IVec S16 32) (ValueIdx.ix1 i) = BitVec.ofNat 32 (g i.val)
  sum : pre g 16 = 32768

variable {m} {c : Dev nD} {g : ℕ → ℕ} (hg : Groups m c g)
include hg

/-- The end of each group. -/
theorem w_v0 (i : Fin 16) : (V m c main_v0 : IVec S16 32) (ValueIdx.ix1 i) = BitVec.ofNat 32 (pre g (i.val + 1)) := by
  rw [V_v0]
  exact cumsum1 (Nm1 := 15) rfl _ g hg.arg _ rfl _ _ i

/-- A row's expert is below 16. -/
theorem count_lt (r : Fin 32768) : Nat.count (fun e => pre g (e + 1) ≤ r.val) 16 < 16 := by
  have h := r.isLt
  have hs := hg.sum
  rw [Nat.count_succ, if_neg (by show ¬ pre g 16 ≤ r.val; omega)]
  have := Nat.count_le (p := fun e => pre g (e + 1) ≤ r.val) (n := 15)
  omega

/-- The expert of each row. -/
theorem w_v8 (r : Fin 32768) : (V m c main_v8 : IVec S32768 32) (ValueIdx.ix1 r) = BitVec.ofNat 32 (Cert.Val.expert g r.val).val := by
  have hc := count_lt hg r
  have he : (Cert.Val.expert g r.val).val = Nat.count (fun e => pre g (e + 1) ≤ r.val) 16 := Nat.mod_eq_of_lt hc
  have hr := r.isLt
  rw [V_v8, he]
  refine reduce_count (n := 32768) (m := 16) (by decide) _ _ _ _ r (fun e => pre g (e + 1) ≤ r.val) fun q => ?_
  have hq : pre g (q.val + 1) ≤ 32768 := by rw [← hg.sum]; exact pre_mono g (by omega)
  rw [cmpi_at, bcCols, bcRows, w_v0 hg, iota1_ap]
  exact cmpi_sge_ofNat_eq_one_iff (w := 32) (by omega) (by omega)

/-- The wrapped expert of each row. -/
theorem w_wrapped (r : Fin 32768) : wrapped (V m c main_v8 : IVec S32768 32) (ValueIdx.ix2 r (0 : Fin 1)) = BitVec.ofNat 32 (Cert.Val.expert g r.val).val := by
  have h1 := (Cert.Val.expert g r.val).isLt
  unfold wrapped
  rw [bcCol, select_at, cmpi_at, bc0, constantI_at, wrap_of_lt _ _ (by rw [w_v8 hg, toNat_ofNat_of_lt (by omega)]; omega), w_v8 hg]

/-- The expert column. -/
theorem w_v16 (r : Fin 32768) : (V m c main_v16 : IVec S32768x1 32) (ValueIdx.ix2 r 0) = BitVec.ofNat 32 (Cert.Val.expert g r.val).val :=
  (congrFun (V_v16 m c) _).trans ((bcCol bcast_S32768_S32768x1_0 _ r).trans (w_v8 hg r))

/-- The activation scale of each row: its expert's. -/
theorem w_v17 (r : Fin 32768) : (V m c main_v17 : FVec F S32768x1 .f32) (ValueIdx.ix2 r 0) = (V m c main_arg2 : FVec F S16 .f32) (ValueIdx.ix1 (Cert.Val.expert g r.val)) :=
  (congrFun (V_v17 m c) _).trans ((bcCol bcast_S32768_S32768x1_0 _ r).trans
    (gather_take1 gather_S16_S32768x1_S32768_n_0_n_n_0_1_1 rfl rfl rfl rfl _ _ r (Cert.Val.expert g r.val) (w_wrapped hg r) (by decide)))

/-- The weight scales of each row: its expert's. -/
theorem w_v24 (r : Fin 32768) (n : Fin 5120) : (V m c main_v24 : FVec F S32768x5120 .f32) (ValueIdx.ix2 r n) = (V m c main_arg4 : FVec F S16x5120 .f32) (ValueIdx.ix2 (Cert.Val.expert g r.val) n) :=
  (congrFun (V_v24 m c) _).trans
    (gather_row gather_S16x5120_S32768x1_S32768x5120_1_0_n_n_0_1_15120 rfl rfl rfl rfl rfl _ _ r n (Cert.Val.expert g r.val) (w_wrapped hg r) (by decide))

end Cert.ReferenceIdeal.Run

end
-- ==== Proof.Ref.Body.lean ====
/- What the reference's region computes, element by element: of the sixteen products it keeps the one of the row's expert, and
   multiplies it by the two scales. -/
module

public import proofs.«01_k».proof.Proof.Gen.ReferenceIdeal.Frame
public import proofs.«01_k».proof.Proof.Val
public import Idealize.ShloMosaic.Lib.MatmulPlain
public import Idealize.ShloMosaic.Lib.ValueIdx
public import Idealize.ShloMosaic.Lib.Pipeline.Value
public import Idealize.ShloMosaic.Lib.ValueLayout
public import Idealize.ShloMosaic.Lib.WordCmp

@[expose] public section

set_option maxRecDepth 16384

noncomputable section

namespace Cert.ReferenceIdeal.Run

open Cert.ReferenceIdeal.Gen
open Idealize.ShloMosaic Idealize.ShloMosaic.TcCoe

/-- The experts' column as the region reads it. -/
theorem pay3_self (e : Vec Ideal S32768x1 .i32) : k0_pay3 (F := Ideal) e = e := shapeCast_self _ _

/-- The scales' column as the region reads it. -/
theorem pay1_self (s : Vec Ideal S32768x1 .f32) : k0_pay1 (F := Ideal) s = s := shapeCast_self _ _

/-- The quantised rows, element by element. -/
theorem pay2_apply (s : Vec Ideal S32768x1 .f32) (x : Vec Ideal S32768x4096 .bf16) (r : Fin 32768) (k : Fin 4096) :
    k0_pay2 (F := Ideal) s x (ValueIdx.ix2 r k) = Cert.Val.quant (x (ValueIdx.ix2 r k)) (s (ValueIdx.ix2 r 0)) := by
  unfold k0_pay2
  rw [pay1_self]
  have h := broadcastTo_apply s broadcasts_S32768x1_S32768x4096 (ValueIdx.ix2 r k) (ValueIdx.ix2 r 0) (by intro a; fin_cases a <;> rfl)
  exact congrArg (fun z : Ideal .f32 => Cert.Val.quant (x (ValueIdx.ix2 r k)) z) h

/-- The product with one expert's weights. -/
abbrev prod (q : FVec Ideal S32768x4096 .fp8e4m3) (w : Vec Ideal S1x5120x4096 .fp8e4m3) : FVec Ideal S32768x5120 .f32 :=
  matmul dot_S32768x4096_S5120x4096_S32768x5120_1_1_0_0_n_n none q (shapeCast S5120x4096 w shapeCasts_S1x5120x4096_S5120x4096 : FVec Ideal S5120x4096 .fp8e4m3) (constant S32768x5120 .f32 0x00000000#32)

/-- That product, element by element. -/
theorem prod_apply (q : FVec Ideal S32768x4096 .fp8e4m3) (w : Vec Ideal S1x5120x4096 .fp8e4m3) (r : Fin 32768) (n : Fin 5120) :
    prod q w (ValueIdx.ix2 r n) = Cert.Val.dot (fun k => q (ValueIdx.ix2 r k)) (fun k => w (ValueIdx.ix3 0 n k)) := by
  have h1 := Ideal.matmul_transposedRhs_apply (φ₁ := .fp8e4m3) (φ₂ := .fp8e4m3) (M := 32768) (K := 4096) (N := 5120) none q
    (shapeCast S5120x4096 w shapeCasts_S1x5120x4096_S5120x4096) (constant S32768x5120 .f32 0x00000000#32) r n
  have h2 : ∀ k : Fin 4096, shapeCast S5120x4096 w shapeCasts_S1x5120x4096_S5120x4096 (ValueIdx.ix2 n k) = w (ValueIdx.ix3 0 n k) :=
    fun k => shapeCast_apply _ _ _ _ (by simp [Shape.rowMajor_val_two, Shape.rowMajor_val_three])
  simp only [h2] at h1
  exact h1

/-- The rows of one expert take its product, the others keep what they had. -/
abbrev keep (e : IVec S32768x1 32) (j : BitVec 32) (d o : FVec Ideal S32768x5120 .f32) : FVec Ideal S32768x5120 .f32 :=
  select (broadcastTo S32768x5120 (shapeCast S32768x1 (cmpi .eq e (broadcast S32768x1 j)) shapeCasts_S32768x1_S32768x1) broadcasts_S32768x1_S32768x5120) d o

/-- That choice, element by element. -/
theorem keep_apply (e : IVec S32768x1 32) (j : BitVec 32) (d o : FVec Ideal S32768x5120 .f32) (r : Fin 32768) (n : Fin 5120) :
    keep e j d o (ValueIdx.ix2 r n) = if e (ValueIdx.ix2 r 0) = j then d (ValueIdx.ix2 r n) else o (ValueIdx.ix2 r n) := by
  unfold keep
  rw [shapeCast_self]
  have h := broadcastTo_apply (cmpi .eq e (broadcast S32768x1 j)) broadcasts_S32768x1_S32768x5120 (ValueIdx.ix2 r n) (ValueIdx.ix2 r 0) (by intro a; fin_cases a <;> rfl)
  show (if broadcastTo S32768x5120 (cmpi .eq e (broadcast S32768x1 j)) broadcasts_S32768x1_S32768x5120 (ValueIdx.ix2 r n) = 1#1 then _ else _) = _
  rw [h]
  have h2 : (cmpi .eq e (broadcast S32768x1 j) (ValueIdx.ix2 r 0) = 1#1) ↔ e (ValueIdx.ix2 r 0) = j := by
    show BitVec.ofBool (decide (e (ValueIdx.ix2 r 0) = j)) = 1#1 ↔ _
    rw [WordCmp.ofBool_eq_one_iff, decide_eq_true_iff]
  exact if_congr h2 rfl rfl

/-- Sixteen choices by the expert leave the expert's own. -/
theorem chain {α : Type} (w : BitVec 32) (e : Fin 16) (hw : w = BitVec.ofNat 32 e.val) (d : Fin 16 → α) (z : α) :
    (if w = 15#32 then d 15 else if w = 14#32 then d 14 else if w = 13#32 then d 13 else if w = 12#32 then d 12
      else if w = 11#32 then d 11 else if w = 10#32 then d 10 else if w = 9#32 then d 9 else if w = 8#32 then d 8
      else if w = 7#32 then d 7 else if w = 6#32 then d 6 else if w = 5#32 then d 5 else if w = 4#32 then d 4
      else if w = 3#32 then d 3 else if w = 2#32 then d 2 else if w = 1#32 then d 1 else if w = 0#32 then d 0 else z) = d e := by
  subst hw
  fin_cases e <;> rfl

/-- Experts 0 and 1. -/
theorem pay4_eq (s : Vec Ideal S32768x1 .f32) (x : Vec Ideal S32768x4096 .bf16) (e : Vec Ideal S32768x1 .i32) (w0 w1 : Vec Ideal S1x5120x4096 .fp8e4m3) :
    k0_pay4 (F := Ideal) s x e w0 w1 = keep e 1#32 (prod (k0_pay2 s x) w1) (keep e 0#32 (prod (k0_pay2 s x) w0) (broadcast S32768x5120 (Scalar.ofBits .f32 0x00000000#32))) := by
  unfold k0_pay4
  rw [pay3_self]

/-- Experts 2 to 6. -/
theorem pay7_eq (s : Vec Ideal S32768x1 .f32) (x : Vec Ideal S32768x4096 .bf16) (e : Vec Ideal S32768x1 .i32) (o : FVec Ideal S32768x5120 .f32)
    (w2 w3 w4 w5 w6 : Vec Ideal S1x5120x4096 .fp8e4m3) :
    k0_pay7 (F := Ideal) (k0_pay2 s x) (k0_pay3 e) o (k0_pay5 s x w2) (k0_pay6 e) w3 w4 w5 w6
      = keep e 6#32 (prod (k0_pay2 s x) w6) (keep e 5#32 (prod (k0_pay2 s x) w5) (keep e 4#32 (prod (k0_pay2 s x) w4)
          (keep e 3#32 (prod (k0_pay2 s x) w3) (keep e 2#32 (prod (k0_pay2 s x) w2) o)))) := by
  unfold k0_pay6
  rw [pay3_self]
  rfl

/-- Experts 7 to 11. -/
theorem pay9_eq (q : FVec Ideal S32768x4096 .fp8e4m3) (e : Vec Ideal S32768x1 .i32) (o : FVec Ideal S32768x5120 .f32)
    (w7 w8 w9 w10 w11 : Vec Ideal S1x5120x4096 .fp8e4m3) :
    k0_pay9 (F := Ideal) q (k0_pay3 e) o (k0_pay8 w7) (constant S32768x5120 .f32 0x00000000#32) w8 w9 w10 w11
      = keep e 11#32 (prod q w11) (keep e 10#32 (prod q w10) (keep e 9#32 (prod q w9) (keep e 8#32 (prod q w8) (keep e 7#32 (prod q w7) o)))) := by
  rw [pay3_self]
  rfl

/-- Experts 12 to 15, and the scales. -/
theorem pay10_apply (s : Vec Ideal S32768x1 .f32) (q : FVec Ideal S32768x4096 .fp8e4m3) (e : Vec Ideal S32768x1 .i32) (o : FVec Ideal S32768x5120 .f32)
    (w12 w13 w14 w15 : Vec Ideal S1x5120x4096 .fp8e4m3) (ws : Vec Ideal S32768x5120 .f32) (r : Fin 32768) (n : Fin 5120) :
    k0_pay10 (F := Ideal) (k0_pay1 s) q (k0_pay3 e) o w12 w13 w14 w15 ws (ValueIdx.ix2 r n)
      = Cert.Val.scaled (keep e 15#32 (prod q w15) (keep e 14#32 (prod q w14) (keep e 13#32 (prod q w13) (keep e 12#32 (prod q w12) o))) (ValueIdx.ix2 r n))
          (s (ValueIdx.ix2 r 0)) (ws (ValueIdx.ix2 r n)) := by
  rw [pay3_self, pay1_self]
  unfold k0_pay10
  rw [shapeCast_self ws]
  have h := broadcastTo_apply s broadcasts_S32768x1_S32768x5120 (ValueIdx.ix2 r n) (ValueIdx.ix2 r 0) (by intro a; fin_cases a <;> rfl)
  exact congrArg (fun z : Ideal .f32 => Cert.Val.scaled (keep e 15#32 (prod q w15) (keep e 14#32 (prod q w14) (keep e 13#32 (prod q w13) (keep e 12#32 (prod q w12) o))) (ValueIdx.ix2 r n)) z (ws (ValueIdx.ix2 r n))) h

/-- One expert's slab of the weights. -/
theorem slab_apply (x : Vec Ideal S16x5120x4096 .fp8e4m3) (j : Fin 16) (off : Fin 3 → ℕ) (inb : ∀ a, off a + S1x5120x4096.size a ≤ S16x5120x4096.size a)
    (h : off = ![j.val, 0, 0]) (n : Fin 5120) (k : Fin 4096) :
    (View.ld (Val := Elt Ideal) (S := S16x5120x4096) (e' := .fp8e4m3) x (Rect.unit (s := S16x5120x4096) off S1x5120x4096.size inb) : Vec Ideal S1x5120x4096 .fp8e4m3) (ValueIdx.ix3 0 n k) = x (ValueIdx.ix3 j n k) := by
  subst h
  refine congrArg x (funext fun a => Fin.ext ?_)
  match a with
  | ⟨0, _⟩ => show j.val + 1 * 0 = j.val; omega
  | ⟨1, _⟩ => show 0 + 1 * n.val = n.val; omega
  | ⟨2, _⟩ => show 0 + 1 * k.val = k.val; omega

/-- THE REGION'S VALUE: the product with the weights of the row's expert, times the two scales. -/
theorem out_apply (x0 : Vec Ideal S32768x1 .i32) (x1 : Vec Ideal S32768x1 .f32) (x2 : Vec Ideal S32768x4096 .bf16) (x3 : Vec Ideal S16x5120x4096 .fp8e4m3)
    (x4 : Vec Ideal S32768x5120 .f32) (r : Fin 32768) (n : Fin 5120) (e : Fin 16) (he : x0 (ValueIdx.ix2 r 0) = BitVec.ofNat 32 e.val) :
    out0_5 (F := Ideal) x0 x1 x2 x3 x4 (ValueIdx.ix2 r n)
      = Cert.Val.scaled (Cert.Val.dot (fun k => Cert.Val.quant (x2 (ValueIdx.ix2 r k)) (x1 (ValueIdx.ix2 r 0))) (fun k => x3 (ValueIdx.ix3 e n k)))
          (x1 (ValueIdx.ix2 r 0)) (x4 (ValueIdx.ix2 r n)) := by
  have hz : (![0, 0] : Fin 2 → ℕ) = fun _ => 0 := funext fun a => by fin_cases a <;> rfl
  unfold out0_5 k0_pay11 k0_pay12
  rw [View.canon_unit_zero hz, View.ld_unit_zero hz, View.ld_unit_zero hz, View.ld_unit_zero hz, View.ld_unit_zero hz]
  rw [pay10_apply, pay9_eq, pay7_eq, pay4_eq]
  simp only [keep_apply, prod_apply]
  refine congrArg (fun z : Ideal .f32 => Cert.Val.scaled z (x1 (ValueIdx.ix2 r 0)) (x4 (ValueIdx.ix2 r n))) ?_
  simp only [pay2_apply]
  refine Eq.trans ?_ (chain (x0 (ValueIdx.ix2 r 0)) e he (fun j => Cert.Val.dot (fun k => Cert.Val.quant (x2 (ValueIdx.ix2 r k)) (x1 (ValueIdx.ix2 r 0))) (fun k => x3 (ValueIdx.ix3 j n k)))
    (Scalar.ofBits (F := Ideal) .f32 0x00000000#32))
  simp only [slab_apply x3 0 ![0, 0, 0] inb_S16x5120x4096_S1x5120x4096_0_0_0 rfl, slab_apply x3 1 ![1, 0, 0] inb_S16x5120x4096_S1x5120x4096_1_0_0 rfl, slab_apply x3 2 ![2, 0, 0] inb_S16x5120x4096_S1x5120x4096_2_0_0 rfl, slab_apply x3 3 ![3, 0, 0] inb_S16x5120x4096_S1x5120x4096_3_0_0 rfl, slab_apply x3 4 ![4, 0, 0] inb_S16x5120x4096_S1x5120x4096_4_0_0 rfl, slab_apply x3 5 ![5, 0, 0] inb_S16x5120x4096_S1x5120x4096_5_0_0 rfl,
    slab_apply x3 6 ![6, 0, 0] inb_S16x5120x4096_S1x5120x4096_6_0_0 rfl, slab_apply x3 7 ![7, 0, 0] inb_S16x5120x4096_S1x5120x4096_7_0_0 rfl, slab_apply x3 8 ![8, 0, 0] inb_S16x5120x4096_S1x5120x4096_8_0_0 rfl, slab_apply x3 9 ![9, 0, 0] inb_S16x5120x4096_S1x5120x4096_9_0_0 rfl, slab_apply x3 10 ![10, 0, 0] inb_S16x5120x4096_S1x5120x4096_10_0_0 rfl, slab_apply x3 11 ![11, 0, 0] inb_S16x5120x4096_S1x5120x4096_11_0_0 rfl,
    slab_apply x3 12 ![12, 0, 0] inb_S16x5120x4096_S1x5120x4096_12_0_0 rfl, slab_apply x3 13 ![13, 0, 0] inb_S16x5120x4096_S1x5120x4096_13_0_0 rfl, slab_apply x3 14 ![14, 0, 0] inb_S16x5120x4096_S1x5120x4096_14_0_0 rfl, slab_apply x3 15 ![15, 0, 0] inb_S16x5120x4096_S1x5120x4096_15_0_0 rfl]
  rfl

end Cert.ReferenceIdeal.Run

end
-- ==== Proof.Ref.Run.lean ====
/- The run of the reference with its value: every element of the result is the grouped projection's, and the arguments end
   unchanged. -/
module

public import proofs.«01_k».proof.Proof.Ref.Words
public import proofs.«01_k».proof.Proof.Ref.Body

@[expose] public section

set_option maxRecDepth 16384

noncomputable section

namespace Cert.ReferenceIdeal.Run

open Cert.ReferenceIdeal.Gen
open Idealize.ShloMosaic Idealize.ShloMosaic.TcCoe Idealize.SL.Sem
open Idealize.ShloMosaic.Pipeline (Dat Cfg Window)

/-- The one grid point. -/
def t₀ : Fin cfg0.N := ⟨0, by decide⟩

section Windows

variable {F : FTy → Type} [FloatOps F]

/-- The experts' window reads its whole array. -/
theorem read0 (f : Vec F S32768x1 .i32) : ((cfg0.win (0 : Fin 6)).blk t₀).view.read (Elt F) f = f :=
  Memref.read_access_unit_zero (Elt F) main_v16 (off := fun a => (win0_0.index t₀) a * main_v16.ty.shape.size a) (funext fun a => by fin_cases a <;> decide) (fun a => by fin_cases a <;> decide) f

/-- The activation scales' window reads its whole array. -/
theorem read1 (f : Vec F S32768x1 .f32) : ((cfg0.win (1 : Fin 6)).blk t₀).view.read (Elt F) f = f :=
  Memref.read_access_unit_zero (Elt F) main_v17 (off := fun a => (win0_1.index t₀) a * main_v17.ty.shape.size a) (funext fun a => by fin_cases a <;> decide) (fun a => by fin_cases a <;> decide) f

/-- The rows' window reads its whole array. -/
theorem read2 (f : Vec F S32768x4096 .bf16) : ((cfg0.win (2 : Fin 6)).blk t₀).view.read (Elt F) f = f :=
  Memref.read_access_unit_zero (Elt F) main_arg0 (off := fun a => (win0_2.index t₀) a * main_arg0.ty.shape.size a) (funext fun a => by fin_cases a <;> decide) (fun a => by fin_cases a <;> decide) f

/-- The weights' window reads its whole array. -/
theorem read3 (f : Vec F S16x5120x4096 .fp8e4m3) : ((cfg0.win (3 : Fin 6)).blk t₀).view.read (Elt F) f = f :=
  Memref.read_access_unit_zero (Elt F) main_arg3 (off := fun a => (win0_3.index t₀) a * main_arg3.ty.shape.size a) (funext fun a => by fin_cases a <;> decide) (fun a => by fin_cases a <;> decide) f

/-- The weight scales' window reads its whole array. -/
theorem read4 (f : Vec F S32768x5120 .f32) : ((cfg0.win (4 : Fin 6)).blk t₀).view.read (Elt F) f = f :=
  Memref.read_access_unit_zero (Elt F) main_v24 (off := fun a => (win0_4.index t₀) a * main_v24.ty.shape.size a) (funext fun a => by fin_cases a <;> decide) (fun a => by fin_cases a <;> decide) f

/-- The result's window reads its whole array. -/
theorem read5 (f : Vec F S32768x5120 .bf16) : ((cfg0.win (5 : Fin 6)).blk t₀).view.read (Elt F) f = f :=
  Memref.read_access_unit_zero (Elt F) main_v25 (off := fun a => (win0_5.index t₀) a * main_v25.ty.shape.size a) (funext fun a => by fin_cases a <;> decide) (fun a => by fin_cases a <;> decide) f

variable (m : (ℓ : Loc nD τ sig) → Buf (Elt F) ℓ)

/-- The result array after the run, read through its one block, is what the one point's write-back wrote. -/
theorem final_out (c : Dev nD) :
    ((cfg0.win (5 : Fin 6)).blk t₀).view.read (Elt F) ((dats (F := F) m 0 c).arrAt (5 : Fin 6) cfg0.N)
      = (dats (F := F) m 0 c).flushed (5 : Fin 6) t₀ := by
  rw [show cfg0.N = (t₀ : Fin cfg0.N).val + 1 from rfl, (dats (F := F) m 0 c).arrAt_succ (5 : Fin 6) t₀]
  rw [show (cfg0.win (5 : Fin 6)).flush t₀ = true from by decide, if_pos rfl]
  exact View.read_write_univ _ _

/-- What that write-back wrote: the body's result over the windows' blocks. -/
theorem flushed_eq (c : Dev nD) : (dats (F := F) m 0 c).flushed (5 : Fin 6) t₀
    = out0_5 (iblk m c 0 t₀) (iblk m c 1 t₀) (iblk m c 2 t₀) (iblk m c 3 t₀) (iblk m c 4 t₀) := by
  show (cfg0.win (5 : Fin 6)).cut _ ((dats (F := F) m 0 c).after 5 t₀) = _
  rw [after0_5]
  rfl

/-- The result array after the run holds the body's result over the arrays the host operations left. -/
theorem final_value (c : Dev nD) :
    (dats (F := F) m 0 c).arrAt (5 : Fin 6) cfg0.N
      = out0_5 (V m c main_v16) (V m c main_v17) (V m c main_arg0) (V m c main_arg3) (V m c main_v24) := by
  have e0 : iblk m c 0 t₀ = V m c main_v16 := read0 _
  have e1 : iblk m c 1 t₀ = V m c main_v17 := read1 _
  have e2 : iblk m c 2 t₀ = V m c main_arg0 := read2 _
  have e3 : iblk m c 3 t₀ = V m c main_arg3 := read3 _
  have e4 : iblk m c 4 t₀ = V m c main_v24 := read4 _
  have h := flushed_eq m c
  rw [e0, e1, e2, e3, e4] at h
  exact (read5 _).symm.trans ((final_out m c).trans h)

end Windows

variable (m : (ℓ : Loc nD τ sig) → Buf (Elt Ideal) ℓ) (ρ : Dev nD → PrngReg)

/-- The result at row `r`, column `n`, of the arguments in memory. -/
def res (g : ℕ → ℕ) (c : Dev nD) (r : Fin 32768) (n : Fin 5120) : Ideal .bf16 :=
  Cert.Val.out g (fun r k => (V m c main_arg0 : Vec Ideal S32768x4096 .bf16) (ValueIdx.ix2 r k)) (fun e => (V m c main_arg2 : Vec Ideal S16 .f32) (ValueIdx.ix1 e))
    (fun e n k => (V m c main_arg3 : Vec Ideal S16x5120x4096 .fp8e4m3) (ValueIdx.ix3 e n k)) (fun e n => (V m c main_arg4 : Vec Ideal S16x5120 .f32) (ValueIdx.ix2 e n)) r n

/-- THE REFERENCE'S RESULT, element by element. -/
theorem final_apply {g : ℕ → ℕ} {c : Dev nD} (hg : Groups m c g) (r : Fin 32768) (n : Fin 5120) :
    ((dats (F := Ideal) m 0 c).arrAt (5 : Fin 6) cfg0.N : Vec Ideal S32768x5120 .bf16) (ValueIdx.ix2 r n) = res m g c r n := by
  refine (congrFun (final_value m c) _).trans ((out_apply _ _ _ _ _ r n (Cert.Val.expert g r.val) (w_v16 hg r)).trans ?_)
  have h1 := w_v17 hg r
  have h2 := w_v24 hg r n
  unfold res Cert.Val.out
  exact congr (congrArg₂ Cert.Val.scaled (congrArg₂ Cert.Val.dot (funext fun k => congrArg (Cert.Val.quant _) h1) rfl) h1) h2

/-- The run: every element of the result is the grouped projection's, and the arguments end unchanged. -/
theorem run (g : ℕ → ℕ) (hg : ∀ c, Groups m c g) : θ_run (defs (F := Ideal)) (onTc (τ := τ) (main (F := Ideal))) ⟨m, fun _ => 0, ρ⟩ (fun r => ∀ c : Dev nD,
      (∀ (p : Fin 32768) (n : Fin 5120), (r.2.mem ((c.tc : Thread nD τ).loc main_v25) : Vec Ideal S32768x5120 .bf16) (ValueIdx.ix2 p n) = res m g c p n)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ⟨fun p n => ?_, ?_⟩) (run_main (F := Ideal) m ρ)
  · exact (congrFun ((h c).1 5) _).trans (final_apply m (hg c) p n)
  · exact ⟨((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩

end Cert.ReferenceIdeal.Run

end
-- ==== Proof.Equal.lean ====
/- The equation: the kernel's result and the reference's are the same grouped projection of the same arguments. -/
module

public import proofs.«01_k».proof.Proof.Frames
public import proofs.«01_k».proof.Proof.PI.Inv
public import proofs.«01_k».proof.Proof.Ref.Run

@[expose] public section

noncomputable section

namespace Cert.Proof

open Idealize.ShloMosaic Idealize.ShloMosaic.TcCoe Idealize.SL.Sem

/-- The result array both programs leave, from the kernel's arguments. -/
def result (m : (ℓ : Loc Cert.KernelIdeal.nD Cert.KernelIdeal.τ Cert.KernelIdeal.sig) → Buf (Elt Ideal) ℓ) (g : ℕ → ℕ) (c : Dev Cert.KernelIdeal.nD) :
    Vec Ideal Cert.KernelIdeal.S32768x5120 .bf16 := fun j => Cert.KernelIdeal.Run.res m g c (j 0) (j 1)

/-- An array equal to the result at every row and column is the result. -/
theorem eq_result (m : (ℓ : Loc Cert.KernelIdeal.nD Cert.KernelIdeal.τ Cert.KernelIdeal.sig) → Buf (Elt Ideal) ℓ) (g : ℕ → ℕ) (c : Dev Cert.KernelIdeal.nD)
    (G : Vec Ideal Cert.KernelIdeal.S32768x5120 .bf16) (h : ∀ (r : Fin 32768) (n : Fin 5120), G (ValueIdx.ix2 r n) = Cert.KernelIdeal.Run.res m g c r n) : G = result m g c := by
  funext j
  obtain ⟨r, n, rfl⟩ : ∃ (r : Fin 32768) (n : Fin 5120), j = ValueIdx.ix2 r n := ⟨j 0, j 1, funext fun x => match x with
    | ⟨0, _⟩ => rfl
    | ⟨1, _⟩ => rfl⟩
  exact h r n

/-- From memories that agree on the arguments, the reference's element is the kernel's. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g : ℕ → ℕ) (r : Fin 32768) (n : Fin 5120) : Cert.ReferenceIdeal.Run.res m' g c r n = Cert.KernelIdeal.Run.res m g c r n := by
  have e0 : (Cert.ReferenceIdeal.Gen.V m' c Cert.ReferenceIdeal.main_arg0 : Vec Ideal Cert.KernelIdeal.S32768x4096 .bf16) = Cert.KernelIdeal.Run.V m c Cert.KernelIdeal.main_arg0 :=
    (Cert.ReferenceIdeal.Gen.V_main_arg0 m' c).trans (h0.trans (Cert.KernelIdeal.Run.V_main_arg0 m c).symm)
  have e2 : (Cert.ReferenceIdeal.Gen.V m' c Cert.ReferenceIdeal.main_arg2 : Vec Ideal Cert.KernelIdeal.S16 .f32) = Cert.KernelIdeal.Run.V m c Cert.KernelIdeal.main_arg2 :=
    (Cert.ReferenceIdeal.Gen.V_main_arg2 m' c).trans (h2.trans (Cert.KernelIdeal.Run.V_main_arg2 m c).symm)
  have e3 : (Cert.ReferenceIdeal.Gen.V m' c Cert.ReferenceIdeal.main_arg3 : Vec Ideal Cert.KernelIdeal.S16x5120x4096 .fp8e4m3) = Cert.KernelIdeal.Run.V m c Cert.KernelIdeal.main_arg3 :=
    (Cert.ReferenceIdeal.Gen.V_main_arg3 m' c).trans (h3.trans (Cert.KernelIdeal.Run.V_main_arg3 m c).symm)
  have e4 : (Cert.ReferenceIdeal.Gen.V m' c Cert.ReferenceIdeal.main_arg4 : Vec Ideal Cert.KernelIdeal.S16x5120 .f32) = Cert.KernelIdeal.Run.V m c Cert.KernelIdeal.main_arg4 :=
    (Cert.ReferenceIdeal.Gen.V_main_arg4 m' c).trans (h4.trans (Cert.KernelIdeal.Run.V_main_arg4 m c).symm)
  unfold Cert.ReferenceIdeal.Run.res Cert.KernelIdeal.Run.res
  have k0 : (fun (r : Fin 32768) (k : Fin 4096) => (Cert.ReferenceIdeal.Gen.V m' c Cert.ReferenceIdeal.main_arg0 : Vec Ideal Cert.KernelIdeal.S32768x4096 .bf16) (ValueIdx.ix2 r k))
      = fun r k => (Cert.KernelIdeal.Run.V m c Cert.KernelIdeal.main_arg0 : Vec Ideal Cert.KernelIdeal.S32768x4096 .bf16) (ValueIdx.ix2 r k) := funext fun r => funext fun k => congrFun e0 _
  have k2 : (fun (e : Fin 16) => (Cert.ReferenceIdeal.Gen.V m' c Cert.ReferenceIdeal.main_arg2 : Vec Ideal Cert.KernelIdeal.S16 .f32) (ValueIdx.ix1 e))
      = fun e => (Cert.KernelIdeal.Run.V m c Cert.KernelIdeal.main_arg2 : Vec Ideal Cert.KernelIdeal.S16 .f32) (ValueIdx.ix1 e) := funext fun e => congrFun e2 _
  have k3 : (fun (e : Fin 16) (n : Fin 5120) (k : Fin 4096) => (Cert.ReferenceIdeal.Gen.V m' c Cert.ReferenceIdeal.main_arg3 : Vec Ideal Cert.KernelIdeal.S16x5120x4096 .fp8e4m3) (ValueIdx.ix3 e n k))
      = fun e n k => (Cert.KernelIdeal.Run.V m c Cert.KernelIdeal.main_arg3 : Vec Ideal Cert.KernelIdeal.S16x5120x4096 .fp8e4m3) (ValueIdx.ix3 e n k) := funext fun e => funext fun n => funext fun k => congrFun e3 _
  have k4 : (fun (e : Fin 16) (n : Fin 5120) => (Cert.ReferenceIdeal.Gen.V m' c Cert.ReferenceIdeal.main_arg4 : Vec Ideal Cert.KernelIdeal.S16x5120 .f32) (ValueIdx.ix2 e n))
      = fun e n => (Cert.KernelIdeal.Run.V m c Cert.KernelIdeal.main_arg4 : Vec Ideal Cert.KernelIdeal.S16x5120 .f32) (ValueIdx.ix2 e n) := funext fun e => funext fun n => congrFun e4 _
  exact congrFun (congrFun (congr (congr (congrArg₂ (Cert.Val.out g) k0 k2) k3) k4) r) n

/-- The kernel and the reference, at exact arithmetic, leave the same result and keep their arguments. -/
theorem algebraic : Cert.algebraic_KernelIdeal_ReferenceIdeal (hKernelIdeal := Cert.KernelIdeal.Gen.facts) (hReferenceIdeal := Cert.ReferenceIdeal.Gen.facts)
    (hPre_groups_partition_rows := Cert.Pre_groups_partition_rows.Gen.facts) := by
  intro m ρ m' ρ' hp ha
  have hg := groups_PI m hp
  have hO := Cert.KernelIdeal.Run.ok hg
  have hK := Cert.KernelIdeal.Run.chk hg
  have hg' : ∀ c, Cert.ReferenceIdeal.Run.Groups m' c (Cert.Sched.sizes (m (((0 : Dev Cert.KernelIdeal.nD) : Thread Cert.KernelIdeal.nD Cert.KernelIdeal.τ).loc Cert.KernelIdeal.main_arg1))) := by
    intro c
    obtain rfl : c = 0 := Subsingleton.elim _ _
    exact ⟨fun i => (congrFun (Cert.ReferenceIdeal.Gen.V_main_arg1 m' 0) _).trans ((congrFun (ha 0).2.1 _).trans (Cert.Sched.sizes_word _ i)), hg.sum⟩
  refine ⟨result m (Cert.Sched.sizes (m (((0 : Dev Cert.KernelIdeal.nD) : Thread Cert.KernelIdeal.nD Cert.KernelIdeal.τ).loc Cert.KernelIdeal.main_arg1))), ?_, ?_⟩
  · refine (θ_run _ _ _).mono (fun r h c => ?_) (Cert.KernelIdeal.Run.value_run m ρ hO hK)
    exact ⟨eq_result m _ c _ (Cert.KernelIdeal.Run.arr_final hg hO hK c _ (h c).1), (h c).2⟩
  · refine (θ_run _ _ _).mono (fun r h c => ?_) (Cert.ReferenceIdeal.Run.run m' ρ' _ hg')
    exact ⟨eq_result m _ c _ fun p n => ((h c).1 p n).trans (res_eq m m' c (ha c).1 (ha c).2.2.1 (ha c).2.2.2.1 (ha c).2.2.2.2 _ p n), (h c).2⟩

end Cert.Proof

end
-- ==== Proof.lean ====
module

public import proofs.«01_k».proof.Proof.Equal

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_groups_partition_rows.Gen.facts,
    frame_P, frame_PI, frame_RI, trivial, algebraic⟩

end Cert.Proof

end
